-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gamma_finite [hPre_gamma_finite : Cert.Pre_gamma_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gamma_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gamma_finite [hPre_gamma_finite : Cert.Pre_gamma_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gamma_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_gamma_finite [hKernelIdeal : Cert.KernelIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gamma_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_gamma_finite [hReferenceIdeal : Cert.ReferenceIdeal.Facts] [hPre_gamma_finite : Cert.Pre_gamma_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gamma_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_gamma_finite [hKernelIdeal : Cert.KernelIdeal.Facts] [hReferenceIdeal : Cert.ReferenceIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gamma_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_gamma_finite : Cert.Pre_gamma_finite.Facts),
    quiescent_Kernel (hKernel := hKernel)
    ∧ quiescent_KernelIdeal (hKernelIdeal := hKernelIdeal)
    ∧ quiescent_KernelIdeal_pre_gamma_finite (hKernelIdeal := hKernelIdeal) (hPre_gamma_finite := hPre_gamma_finite)
    ∧ quiescent_ReferenceIdeal (hReferenceIdeal := hReferenceIdeal)
    ∧ quiescent_ReferenceIdeal_pre_gamma_finite (hReferenceIdeal := hReferenceIdeal) (hPre_gamma_finite := hPre_gamma_finite)
    ∧ preserves_Kernel_KernelIdeal
    ∧ algebraic_KernelIdeal_ReferenceIdeal_pre_gamma_finite (hKernelIdeal := hKernelIdeal) (hReferenceIdeal := hReferenceIdeal) (hPre_gamma_finite := hPre_gamma_finite)
-- ==== Pre_gamma_finite.lean ====
abbrev S28x2048x3584 : Shape := ⟨3, ![28, 2048, 3584]⟩
abbrev S3584 : Shape := ⟨1, ![3584]⟩
abbrev S_ : Shape := ⟨0, ![]⟩

class Facts : Prop where
  bitsLt_bf16_f32 : FTy.bits .bf16 < FTy.bits .f32
  bcast_S_S3584 : S_.BroadcastsInDim S3584 (![] : Fin 0 → Fin S3584.rank)

variable [Facts]

def fn {F : FTy → Type} [FloatOps F] (main_arg0 : FVec F S28x2048x3584 .bf16) (main_arg1 : FVec F S28x2048x3584 .bf16) (main_arg2 : FVec F S3584 .bf16) : IVec S3584 1 :=
  let main_v0 : FVec F S3584 .f32 := (extf .f32 · bitsLt_bf16_f32) main_arg2
  let main_v1 : FVec F S3584 .f32 := Host.absf main_v0
  let main_cst : FVec F S_ .f32 := constant S_ .f32 0x7F7F0000#32
  let main_v2 : FVec F S3584 .f32 := broadcastInDim S3584 ![] bcast_S_S3584 main_cst
  let main_v3 : IVec S3584 1 := cmpf .ole main_v1 main_v2
  main_v3
-- ==== Kernel.lean ====
abbrev S28x2048x3584 : Shape := ⟨3, ![28, 2048, 3584]⟩
abbrev S3584 : Shape := ⟨1, ![3584]⟩
abbrev S57344x3584 : Shape := ⟨2, ![57344, 3584]⟩
abbrev S1x3584 : Shape := ⟨2, ![1, 3584]⟩
abbrev S28x28x2048 : Shape := ⟨3, ![28, 28, 2048]⟩
abbrev S256x3584 : Shape := ⟨2, ![256, 3584]⟩
abbrev S1x28x256 : Shape := ⟨3, ![1, 28, 256]⟩
abbrev S256x128 : Shape := ⟨2, ![256, 128]⟩
abbrev S32x256 : Shape := ⟨2, ![32, 256]⟩
abbrev S32x128 : Shape := ⟨2, ![32, 128]⟩
abbrev S32 : Shape := ⟨1, ![32]⟩
abbrev S32x1 : Shape := ⟨2, ![32, 1]⟩
abbrev S1x128 : Shape := ⟨2, ![1, 128]⟩
abbrev S128x256 : Shape := ⟨2, ![128, 256]⟩
abbrev S28x256 : Shape := ⟨2, ![28, 256]⟩
abbrev S28x2048x28 : Shape := ⟨3, ![28, 2048, 28]⟩

abbrev nBuf : Space → Nat
  | .hbm => 12
  | .vmem => 12
  | .smem => 0
  | _ => 0

abbrev bufTy : (tb : Table) → Fin (tcTables nBuf tb) → BufTy
  | .hbm, ⟨0, _⟩ => ⟨S28x2048x3584, .bf16⟩
  | .hbm, ⟨1, _⟩ => ⟨S28x2048x3584, .bf16⟩
  | .hbm, ⟨2, _⟩ => ⟨S3584, .bf16⟩
  | .hbm, ⟨3, _⟩ => ⟨S57344x3584, .bf16⟩
  | .hbm, ⟨4, _⟩ => ⟨S57344x3584, .bf16⟩
  | .hbm, ⟨5, _⟩ => ⟨S1x3584, .bf16⟩
  | .hbm, ⟨6, _⟩ => ⟨S57344x3584, .bf16⟩
  | .hbm, ⟨7, _⟩ => ⟨S57344x3584, .fp8e4m3⟩
  | .hbm, ⟨8, _⟩ => ⟨S28x28x2048, .f32⟩
  | .hbm, ⟨9, _⟩ => ⟨S28x2048x3584, .bf16⟩
  | .hbm, ⟨10, _⟩ => ⟨S28x2048x3584, .fp8e4m3⟩
  | .hbm, ⟨11, _⟩ => ⟨S28x2048x28, .f32⟩
  | .local _ .vmem, ⟨0, _⟩ => ⟨S256x3584, .bf16⟩
  | .local _ .vmem, ⟨1, _⟩ => ⟨S256x3584, .bf16⟩
  | .local _ .vmem, ⟨2, _⟩ => ⟨S256x3584, .bf16⟩
  | .local _ .vmem, ⟨3, _⟩ => ⟨S256x3584, .bf16⟩
  | .local _ .vmem, ⟨4, _⟩ => ⟨S1x3584, .bf16⟩
  | .local _ .vmem, ⟨5, _⟩ => ⟨S256x3584, .bf16⟩
  | .local _ .vmem, ⟨6, _⟩ => ⟨S256x3584, .bf16⟩
  | .local _ .vmem, ⟨7, _⟩ => ⟨S256x3584, .fp8e4m3⟩
  | .local _ .vmem, ⟨8, _⟩ => ⟨S256x3584, .fp8e4m3⟩
  | .local _ .vmem, ⟨9, _⟩ => ⟨S1x28x256, .f32⟩
  | .local _ .vmem, ⟨10, _⟩ => ⟨S1x28x256, .f32⟩
  | .local _ .vmem, ⟨11, _⟩ => ⟨S256x128, .i32⟩
  | _, _ => ⟨S28x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![224], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  v14
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v16 : Index := Scalar.indexCast v15
  let c0_6 : Index := 0#32
  ![v16.toNat, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v33 : Index := Scalar.indexCast v15
  let c256 : Index := 256#32
  ![v33.toNat, 256]
def k0_off3 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v51 : Index := Scalar.indexCast v15
  let c512 : Index := 512#32
  ![v51.toNat, 512]
def k0_off4 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v69 : Index := Scalar.indexCast v15
  let c768 : Index := 768#32
  ![v69.toNat, 768]
def k0_off5 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v87 : Index := Scalar.indexCast v15
  let c1024 : Index := 1024#32
  ![v87.toNat, 1024]
def k0_off6 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v105 : Index := Scalar.indexCast v15
  let c1280 : Index := 1280#32
  ![v105.toNat, 1280]
def k0_off7 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v123 : Index := Scalar.indexCast v15
  let c1536 : Index := 1536#32
  ![v123.toNat, 1536]
def k0_off8 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v141 : Index := Scalar.indexCast v15
  let c1792 : Index := 1792#32
  ![v141.toNat, 1792]
def k0_off9 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v159 : Index := Scalar.indexCast v15
  let c2048 : Index := 2048#32
  ![v159.toNat, 2048]
def k0_off10 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v177 : Index := Scalar.indexCast v15
  let c2304 : Index := 2304#32
  ![v177.toNat, 2304]
def k0_off11 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v195 : Index := Scalar.indexCast v15
  let c2560 : Index := 2560#32
  ![v195.toNat, 2560]
def k0_off12 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v213 : Index := Scalar.indexCast v15
  let c2816 : Index := 2816#32
  ![v213.toNat, 2816]
def k0_off13 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v231 : Index := Scalar.indexCast v15
  let c3072 : Index := 3072#32
  ![v231.toNat, 3072]
def k0_off14 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v249 : Index := Scalar.indexCast v15
  let c3328 : Index := 3328#32
  ![v249.toNat, 3328]
def k0_off15 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v322 : Index := Scalar.indexCast v15
  let c0_51 : Index := 0#32
  ![v322.toNat, 0]
def k0_off16 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v366 : Index := Scalar.indexCast v15
  let c128_64 : Index := 128#32
  ![v366.toNat, 128]
def k0_off17 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v414 : Index := Scalar.indexCast v15
  let c256_78 : Index := 256#32
  ![v414.toNat, 256]
def k0_off18 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v458 : Index := Scalar.indexCast v15
  let c384_90 : Index := 384#32
  ![v458.toNat, 384]
def k0_off19 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v506 : Index := Scalar.indexCast v15
  let c512_104 : Index := 512#32
  ![v506.toNat, 512]
def k0_off20 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v550 : Index := Scalar.indexCast v15
  let c640_116 : Index := 640#32
  ![v550.toNat, 640]
def k0_off21 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v598 : Index := Scalar.indexCast v15
  let c768_130 : Index := 768#32
  ![v598.toNat, 768]
def k0_off22 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v642 : Index := Scalar.indexCast v15
  let c896_142 : Index := 896#32
  ![v642.toNat, 896]
def k0_off23 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v690 : Index := Scalar.indexCast v15
  let c1024_157 : Index := 1024#32
  ![v690.toNat, 1024]
def k0_off24 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v734 : Index := Scalar.indexCast v15
  let c1152_169 : Index := 1152#32
  ![v734.toNat, 1152]
def k0_off25 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v782 : Index := Scalar.indexCast v15
  let c1280_183 : Index := 1280#32
  ![v782.toNat, 1280]
def k0_off26 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v826 : Index := Scalar.indexCast v15
  let c1408_195 : Index := 1408#32
  ![v826.toNat, 1408]
def k0_off27 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v874 : Index := Scalar.indexCast v15
  let c1536_209 : Index := 1536#32
  ![v874.toNat, 1536]
def k0_off28 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v918 : Index := Scalar.indexCast v15
  let c1664_221 : Index := 1664#32
  ![v918.toNat, 1664]
def k0_off29 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v966 : Index := Scalar.indexCast v15
  let c1792_235 : Index := 1792#32
  ![v966.toNat, 1792]
def k0_off30 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v1010 : Index := Scalar.indexCast v15
  let c1920_247 : Index := 1920#32
  ![v1010.toNat, 1920]
def k0_off31 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v1058 : Index := Scalar.indexCast v15
  let c2048_261 : Index := 2048#32
  ![v1058.toNat, 2048]
def k0_off32 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v1102 : Index := Scalar.indexCast v15
  let c2176_273 : Index := 2176#32
  ![v1102.toNat, 2176]
def k0_off33 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v1150 : Index := Scalar.indexCast v15
  let c2304_287 : Index := 2304#32
  ![v1150.toNat, 2304]
def k0_off34 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v1194 : Index := Scalar.indexCast v15
  let c2432_299 : Index := 2432#32
  ![v1194.toNat, 2432]
def k0_off35 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v1242 : Index := Scalar.indexCast v15
  let c2560_313 : Index := 2560#32
  ![v1242.toNat, 2560]
def k0_off36 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v1286 : Index := Scalar.indexCast v15
  let c2688_325 : Index := 2688#32
  ![v1286.toNat, 2688]
def k0_off37 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v1334 : Index := Scalar.indexCast v15
  let c2816_339 : Index := 2816#32
  ![v1334.toNat, 2816]
def k0_off38 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v1378 : Index := Scalar.indexCast v15
  let c2944_351 : Index := 2944#32
  ![v1378.toNat, 2944]
def k0_off39 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v1426 : Index := Scalar.indexCast v15
  let c3072_365 : Index := 3072#32
  ![v1426.toNat, 3072]
def k0_off40 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v1470 : Index := Scalar.indexCast v15
  let c3200_377 : Index := 3200#32
  ![v1470.toNat, 3200]
def k0_off41 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v1518 : Index := Scalar.indexCast v15
  let c3328_391 : Index := 3328#32
  ![v1518.toNat, 3328]
def k0_off42 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v1562 : Index := Scalar.indexCast v15
  let c3456_403 : Index := 3456#32
  ![v1562.toNat, 3456]
def k0_off43 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v14 : BitVec 32 := Scalar.muli arg8 c32_i32
  let v15 : BitVec 32 := v14
  let v1564 : Index := Scalar.indexCast v15
  let c0_404 : Index := 0#32
  ![v1564.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3584 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x28x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S28x2048x3584 : Shape := ⟨3, ![28, 2048, 3584]⟩
abbrev S3584 : Shape := ⟨1, ![3584]⟩
abbrev S_ : Shape := ⟨0, ![]⟩
abbrev S28x2048 : Shape := ⟨2, ![28, 2048]⟩
abbrev S28x2048x1 : Shape := ⟨3, ![28, 2048, 1]⟩
abbrev S1x1x3584 : Shape := ⟨3, ![1, 1, 3584]⟩
abbrev S28x2048x28x128 : Shape := ⟨4, ![28, 2048, 28, 128]⟩
abbrev S28x2048x28 : Shape := ⟨3, ![28, 2048, 28]⟩
abbrev S28x2048x28x1 : Shape := ⟨4, ![28, 2048, 28, 1]⟩

abbrev nBuf : Space → Nat
  | .hbm => 64
  | .vmem => 0
  | .smem => 0
  | _ => 0

abbrev bufTy : (tb : Table) → Fin (tcTables nBuf tb) → BufTy
  | .hbm, ⟨0, _⟩ => ⟨S28x2048x3584, .bf16⟩
  | .hbm, ⟨1, _⟩ => ⟨S28x2048x3584, .bf16⟩
  | .hbm, ⟨2, _⟩ => ⟨S3584, .bf16⟩
  | .hbm, ⟨3, _⟩ => ⟨S28x2048x3584, .f32⟩
  | .hbm, ⟨4, _⟩ => ⟨S28x2048x3584, .f32⟩
  | .hbm, ⟨5, _⟩ => ⟨S28x2048x3584, .f32⟩
  | .hbm, ⟨6, _⟩ => ⟨S28x2048x3584, .bf16⟩
  | .hbm, ⟨7, _⟩ => ⟨S28x2048x3584, .f32⟩
  | .hbm, ⟨8, _⟩ => ⟨S28x2048x3584, .f32⟩
  | .hbm, ⟨9, _⟩ => ⟨S_, .f32⟩
  | .hbm, ⟨10, _⟩ => ⟨S28x2048, .f32⟩
  | .hbm, ⟨11, _⟩ => ⟨S28x2048x1, .f32⟩
  | .hbm, ⟨12, _⟩ => ⟨S_, .f32⟩
  | .hbm, ⟨13, _⟩ => ⟨S28x2048x1, .f32⟩
  | .hbm, ⟨14, _⟩ => ⟨S28x2048x1, .f32⟩
  | .hbm, ⟨15, _⟩ => ⟨S_, .f32⟩
  | .hbm, ⟨16, _⟩ => ⟨S28x2048x1, .f32⟩
  | .hbm, ⟨17, _⟩ => ⟨S28x2048x1, .f32⟩
  | .hbm, ⟨18, _⟩ => ⟨S28x2048x1, .f32⟩
  | .hbm, ⟨19, _⟩ => ⟨S28x2048x3584, .f32⟩
  | .hbm, ⟨20, _⟩ => ⟨S28x2048x3584, .f32⟩
  | .hbm, ⟨21, _⟩ => ⟨S3584, .f32⟩
  | .hbm, ⟨22, _⟩ => ⟨S1x1x3584, .f32⟩
  | .hbm, ⟨23, _⟩ => ⟨S28x2048x3584, .f32⟩
  | .hbm, ⟨24, _⟩ => ⟨S28x2048x3584, .f32⟩
  | .hbm, ⟨25, _⟩ => ⟨S28x2048x28x128, .f32⟩
  | .hbm, ⟨26, _⟩ => ⟨S28x2048x28x128, .f32⟩
  | .hbm, ⟨27, _⟩ => ⟨S_, .f32⟩
  | .hbm, ⟨28, _⟩ => ⟨S28x2048x28, .f32⟩
  | .hbm, ⟨29, _⟩ => ⟨S_, .f32⟩
  | .hbm, ⟨30, _⟩ => ⟨S28x2048x28, .f32⟩
  | .hbm, ⟨31, _⟩ => ⟨S28x2048x28, .f32⟩
  | .hbm, ⟨32, _⟩ => ⟨S_, .f32⟩
  | .hbm, ⟨33, _⟩ => ⟨S28x2048x28, .f32⟩
  | .hbm, ⟨34, _⟩ => ⟨S_, .f32⟩
  | .hbm, ⟨35, _⟩ => ⟨S28x2048x28, .f32⟩
  | .hbm, ⟨36, _⟩ => ⟨S28x2048x28, .i1⟩
  | .hbm, ⟨37, _⟩ => ⟨S28x2048x28, .f32⟩
  | .hbm, ⟨38, _⟩ => ⟨S28x2048x28, .f32⟩
  | .hbm, ⟨39, _⟩ => ⟨S28x2048x28, .f32⟩
  | .hbm, ⟨40, _⟩ => ⟨S28x2048x28, .f32⟩
  | .hbm, ⟨41, _⟩ => ⟨S_, .f32⟩
  | .hbm, ⟨42, _⟩ => ⟨S28x2048x28, .f32⟩
  | .hbm, ⟨43, _⟩ => ⟨S28x2048x28, .f32⟩
  | .hbm, ⟨44, _⟩ => ⟨S_, .f32⟩
  | .hbm, ⟨45, _⟩ => ⟨S_, .f32⟩
  | .hbm, ⟨46, _⟩ => ⟨S28x2048x28, .f32⟩
  | .hbm, ⟨47, _⟩ => ⟨S28x2048x28, .f32⟩
  | .hbm, ⟨48, _⟩ => ⟨S28x2048x28, .f32⟩
  | .hbm, ⟨49, _⟩ => ⟨S28x2048x28, .f32⟩
  | .hbm, ⟨50, _⟩ => ⟨S28x2048x28, .f32⟩
  | .hbm, ⟨51, _⟩ => ⟨S28x2048x28x1, .f32⟩
  | .hbm, ⟨52, _⟩ => ⟨S28x2048x28x128, .f32⟩
  | .hbm, ⟨53, _⟩ => ⟨S28x2048x28x128, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S28x2048x28x128, .f32⟩
  | .hbm, ⟨58, _⟩ => ⟨S28x2048x28x128, .f32⟩
  | .hbm, ⟨59, _⟩ => ⟨S_, .f32⟩
  | .hbm, ⟨60, _⟩ => ⟨S28x2048x28x128, .f32⟩
  | .hbm, ⟨61, _⟩ => ⟨S28x2048x28x128, .f32⟩
  | .hbm, ⟨62, _⟩ => ⟨S28x2048x3584, .f32⟩
  | .hbm, ⟨63, _⟩ => ⟨S28x2048x3584, .fp8e4m3⟩
  | _, _ => ⟨S28x2048x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_call0_v0 : Ref sig .tc := ⟨.hbm, 45, rfl⟩
abbrev main_call0_v1 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_cst_9 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== Proof.KernelFrame.lean ====
/- The kernel's frame, at any arithmetic: it runs to the end, leaves its arguments unchanged and every semaphore at zero.
   Nothing is stated here of what it leaves in its results. -/
module

public import proofs.«01_k».proof.Proof.Gen.Kernel.Skeleton
public import proofs.«01_k».proof.Proof.Gen.Kernel.Loops
public import proofs.«01_k».proof.Proof.Gen.Kernel.Frame
public import Idealize.ShloMosaic.Lib.Claim

@[expose] public section

set_option maxRecDepth 16384

noncomputable section

namespace Cert.Kernel.Hand

open Idealize.ShloMosaic Idealize.ShloMosaic.TcCoe Idealize.ShloMosaic.Tactic Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the lines after the loop write: the three results, of which nothing is stated. -/
def T0 : Finset (Ref sig .tc) := {main_v4, main_v5, main_v6}
/-- The lines after the loop write these only. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- A run that leaves the operands and the buffers outside the results as the loop found them leaves the arguments
    unchanged. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c)⟩) h

/-- The staging memrefs at point `t`. -/
abbrev ms0_0 (t : Fin cfg0.N) : Memref sig .tc .vmem S256x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x3584 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3584 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x3584 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x3584 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x28x256 .f32 := win0_5.stage (cfg0.slots t 5)
abbrev hs0_5 (t : Fin cfg0.N) : (ms0_5 t).IsWhole := hstage0_5 ((cfg0.slots t 5).cast nbuf0_5)
/-- The scratch table of fields, whole. -/
abbrev scM0_0 : Memref sig .tc .vmem S256x128 .i32 := Memref.whole cc0_scratch0

/-- The region's invariant: the scratch table at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1000000 in
/-- The body runs from any contents of the results' buffers and of the scratch table, and leaves the operands as they were. -/
theorem body_run (c : Dev nD) (i : grid0.Coords) (arg1 : Memref sig .tc .vmem S256x3584 .bf16) (harg1 : arg1.IsWhole) (arg2 : Memref sig .tc .vmem S256x3584 .bf16) (harg2 : arg2.IsWhole) (arg3 : Memref sig .tc .vmem S1x3584 .bf16) (harg3 : arg3.IsWhole) (arg4 : Memref sig .tc .vmem S256x3584 .bf16) (harg4 : arg4.IsWhole) (arg5 : Memref sig .tc .vmem S256x3584 .fp8e4m3) (harg5 : arg5.IsWhole) (arg6 : Memref sig .tc .vmem S1x28x256 .f32) (harg6 : arg6.IsWhole) (arg7 : Memref sig .tc .vmem S256x128 .i32) (harg7 : arg7.IsWhole)
    (x0 : Vec F S256x3584 .bf16) (x1 : Vec F S256x3584 .bf16) (x2 : Vec F S1x3584 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0__body i arg1 harg1 arg2 harg2 arg3 harg3 arg4 harg4 arg5 harg5 arg6 harg6 arg7 harg7) K := by
    intro E K
    simp only [cc0__body_eq_skeleton]; unfold cc0__body_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    iexists _, _; isplitr; swap; · iexact HS0
    ipureintro; rfl

/-- The results' windows: nothing is stated of their contents. -/
def forgets0 : Fin 6 → Bool := fun w => w.val == 3 || w.val == 4 || w.val == 5

/-- The pipeline's data on core `c`: an operand's buffer holds its block before and after the body; of the results nothing is named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The arrays as the loop finds them. -/
theorem A_eq (c : Dev nD) (w : Fin cfg0.W) : (dats m 0 c).A w = V m c (Pipeline.arrRef spec0 w) := by
  dsimp only [dats]

/-- A body leaves the first operand's block as it was. -/
theorem after0_0 (c : Dev nD) (t : Fin cfg0.N) : (dats m 0 c).after 0 t = iblk m c 0 t := by dsimp only [dats]
/-- A body leaves the second operand's block as it was. -/
theorem after0_1 (c : Dev nD) (t : Fin cfg0.N) : (dats m 0 c).after 1 t = iblk m c 1 t := by dsimp only [dats]
/-- A body leaves the gains as they were. -/
theorem after0_2 (c : Dev nD) (t : Fin cfg0.N) : (dats m 0 c).after 2 t = iblk m c 2 t := by dsimp only [dats]

/-- A body finds the first operand's block. -/
theorem before0_0 (c : Dev nD) (t : Fin cfg0.N) (d) : (dats m 0 c).before 0 t d = iblk m c 0 t :=
  before0_0_of m (dats m 0 c) (A_eq m c 0) (after0_0 m c) t d
/-- A body finds the second operand's block. -/
theorem before0_1 (c : Dev nD) (t : Fin cfg0.N) (d) : (dats m 0 c).before 1 t d = iblk m c 1 t :=
  before0_1_of m (dats m 0 c) (A_eq m c 1) (after0_1 m c) t d
/-- A body finds the gains. -/
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d)
    ∗ (∃ d, owns (c : Thread nD τ) (ms0_5 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩⟩
  iapply ((body_run c (grid0.coords t) _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  iintro ⟨H0, H1, H2, H3, H4, H5, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point: the body's triple restated. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- The program runs; at the end the operands and every buffer outside the results are as the loop found them, and every
    semaphore counter is zero. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The same, without the counters. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- The program ends with its arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- The program ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Hand

end
-- ==== Proof.Row.lean ====
/- The mathematics of one row, on extended reals: the norm, the groups of 128 channels, the exponent word of a group,
   and the codes and scales both programs compute from it. -/
module

public import Idealize.ShloMosaic.PureOps
public import Idealize.ShloMosaic.PureOps.Ideal.Laws

@[expose] public section

noncomputable section

namespace Cert.Row

open Idealize.ShloMosaic

/-- Channel `l` of group `j`. -/
def col (j : Fin 28) (l : Fin 128) : Fin 3584 := ⟨128 * j.val + l.val, by omega⟩

/-- The group a channel is in. -/
def grp (c : Fin 3584) : Fin 28 := ⟨c.val / 128, by omega⟩

/-- The reciprocal root of a row's mean square plus the norm's small constant. -/
def rs (f : Fin 3584 → EReal) : EReal :=
  Ideal.rsqrt (Ideal.div (∑ c, f c * f c) (Ideal.ieee 8 23 0x45600000#32) + Ideal.ieee 8 23 0x358637BD#32)

/-- A row normed and scaled by the gains `g`. -/
def y (f g : Fin 3584 → EReal) (c : Fin 3584) : EReal := f c * rs f * g c

/-- The greatest of 128 absolute values, times the constant 1/448. -/
def amax (u : Fin 128 → EReal) : EReal :=
  (Finset.univ : Finset (Fin 128)).fold max (Ideal.ieee 8 23 0xFF800000#32) (fun l => max (u l) (-u l))
    * Ideal.ieee 8 23 0x3B124925#32

/-- The `k`-th exponent word. -/
def word (k : ℕ) : BitVec 32 := BitVec.ofNat 32 k * 8388608#32

/-- The exponent field of `v`, in place: the greatest exponent word whose float is not above `v`. -/
def field (v : EReal) : BitVec 32 :=
  (Finset.univ : Finset (Fin 256)).fold IntOp.maxsi 2147483648#32
    (fun k => Scalar.select (Ideal.cmp .olt v (Ideal.ieee 8 23 (word k.val))) 0#32 (word k.val))

/-- The word of the factor that multiplies a group: one for a zero field, else the float of the opposite exponent. -/
def invWord (e : BitVec 32) : BitVec 32 := Scalar.select (IntOp.cmpi .eq e 0#32) 1065353216#32 (IntOp.subi 2122317824#32 e)

/-- The word of a group's scale: one for a zero field, else the next power of two. -/
def scaleWord (e : BitVec 32) : BitVec 32 := Scalar.select (IntOp.cmpi .eq e 0#32) 1065353216#32 (IntOp.addi e 8388608#32)

/-- Limited to the range of the codes, from -448 to 448. -/
def clip (x : EReal) : EReal := min (Ideal.ieee 8 23 0x43E00000#32) (max (Ideal.ieee 8 23 0xC3E00000#32) x)

/-- The exponent field of group `j`. -/
def fieldAt (f g : Fin 3584 → EReal) (j : Fin 28) : BitVec 32 := field (amax fun l => y f g (col j l))

/-- The code of channel `c`. -/
def code (f g : Fin 3584 → EReal) (c : Fin 3584) : EReal :=
  clip (y f g c * Ideal.ieee 8 23 (invWord (fieldAt f g (grp c))))

/-- The scale of group `j`. -/
def scale (f g : Fin 3584 → EReal) (j : Fin 28) : EReal := Ideal.ieee 8 23 (scaleWord (fieldAt f g j))

/-- A row's sum, lane by lane and then group by group. -/
theorem sum_cols (F : ℕ → EReal) :
    (∑ l : Fin 128, ∑ j ∈ Finset.range 28, F (128 * j + l.val)) = ∑ c : Fin 3584, F c.val := by
  rw [Finset.sum_comm, Finset.sum_range (n := 28), ← Fintype.sum_prod_type']
  exact Fintype.sum_equiv finProdFinEquiv _ _ fun p => congrArg F (by
    show 128 * p.1.val + p.2.val = p.2.val + 128 * p.1.val
    omega)

end Cert.Row

end
-- ==== Proof.Power.lean ====
/- The power of two of a group's greatest value, computed in two ways: as the exponent field of a float's word, and as the
   whole part of a base-two logarithm. -/
module

public import proofs.«01_k».proof.Proof.Row
public import Mathlib.Analysis.SpecialFunctions.Log.Basic
public import Mathlib.Analysis.SpecialFunctions.Pow.Real

@[expose] public section

noncomputable section

namespace Cert.Row

open Idealize.ShloMosaic

/-- The exponent of a group's scale: zero below the least normal float, else one more than the whole part of the base-two
    logarithm. -/
def expo (v : EReal) : EReal :=
  Scalar.select (Ideal.cmp .olt v (Ideal.ieee 8 23 0x00800000#32)) (Ideal.ieee 8 23 0x00000000#32)
    (Ideal.liftRound Int.floor (Ideal.div (Ideal.log v) (Ideal.log (Ideal.ieee 8 23 0x40000000#32))) + Ideal.ieee 8 23 0x3F800000#32)

/-- Two to a power. -/
def two (e : EReal) : EReal := Ideal.pow (Ideal.ieee 8 23 0x40000000#32) e

/-- The three fields of an exponent word. -/
theorem word_bits : ∀ k : Fin 256, (word k.val).extractLsb' 31 1 = 0#1 ∧ ((word k.val).extractLsb' 23 8).toNat = k.val
    ∧ ((word k.val).extractLsb' 0 23).toNat = 0 := by decide +kernel

/-- An exponent word as an integer. -/
theorem word_toInt : ∀ k : Fin 256, (word k.val).toInt = 8388608 * (k.val : ℤ) := by decide +kernel

/-- The float of an exponent word is a power of two. -/
theorem ieee_word (k : ℕ) (h1 : 1 ≤ k) (h2 : k ≤ 254) : Ideal.ieee 8 23 (word k) = (((2 : ℝ) ^ ((k : ℤ) - 127) : ℝ) : EReal) := by
  obtain ⟨a, b, c⟩ := word_bits ⟨k, by omega⟩
  simp only [Ideal.ieee, a, b, c]
  rw [if_neg (by omega), if_neg (by omega)]
  congr 1
  have e : ((k : ℤ) - 127) = 23 + ((k : ℤ) - 127 - 23) := by ring
  rw [e, zpow_add₀ (by norm_num : (2 : ℝ) ≠ 0)]
  norm_num

/-- The float of the zero word is zero. -/
theorem ieee_word_zero : Ideal.ieee 8 23 (word 0) = 0 := by
  have e : word 0 = 0x00000000#32 := by decide
  rw [e]
  simp [Ideal.ieee]

/-- The float of the last exponent word is infinity. -/
theorem ieee_word_last : Ideal.ieee 8 23 (word 255) = ⊤ := by
  obtain ⟨a, b, c⟩ := word_bits ⟨255, by omega⟩
  simp only [Ideal.ieee, a, b, c]
  simp

/-- The word of one. -/
theorem ieee_one : Ideal.ieee 8 23 0x3F800000#32 = ((1 : ℝ) : EReal) := by
  have e : (0x3F800000#32 : BitVec 32) = word 127 := by decide
  rw [e, ieee_word 127 (by omega) (by omega)]
  norm_num

/-- The word of two. -/
theorem ieee_two : Ideal.ieee 8 23 0x40000000#32 = ((2 : ℝ) : EReal) := by
  have e : (0x40000000#32 : BitVec 32) = word 128 := by decide
  rw [e, ieee_word 128 (by omega) (by omega)]
  norm_num

/-- The word of the least normal float. -/
theorem ieee_tiny : Ideal.ieee 8 23 0x00800000#32 = (((2 : ℝ) ^ (-126 : ℤ) : ℝ) : EReal) := by
  have e : (0x00800000#32 : BitVec 32) = word 1 := by decide
  rw [e, ieee_word 1 (by omega) (by omega)]
  norm_num

/-- The greater of two words, as an integer. -/
theorem maxsi_toInt (a b : BitVec 32) : (IntOp.maxsi a b).toInt = max a.toInt b.toInt := by
  unfold IntOp.maxsi
  split <;> simp_all [BitVec.slt, BitVec.sle] <;> omega

/-- A greatest word as an integer. -/
theorem fold_maxsi_toInt {ι : Type} (s : Finset ι) (w : ι → BitVec 32) (b : BitVec 32) (t : ℤ) :
    (s.fold IntOp.maxsi b w).toInt ≤ t ↔ b.toInt ≤ t ∧ ∀ k ∈ s, (w k).toInt ≤ t := by
  classical
  induction s using Finset.induction_on with
  | empty => simp
  | insert a s ha ih =>
    rw [Finset.fold_insert ha, maxsi_toInt, max_le_iff, ih]
    simp only [Finset.mem_insert, forall_eq_or_imp]
    tauto

/-- The exponent field is the `E`-th when the `E`-th float is not above the value and all later ones are. -/
theorem field_eq (v : EReal) (E : Fin 256) (h1 : Ideal.ieee 8 23 (word E.val) ≤ v)
    (h2 : ∀ k : Fin 256, E.val < k.val → v < Ideal.ieee 8 23 (word k.val)) : field v = word E.val := by
  have hE : Scalar.select (Ideal.cmp .olt v (Ideal.ieee 8 23 (word E.val))) 0#32 (word E.val) = word E.val := by
    rw [Ideal.cmp, show decide (v < Ideal.ieee 8 23 (word E.val)) = false from decide_eq_false (not_lt.2 h1)]
    rfl
  apply BitVec.eq_of_toInt_eq
  apply le_antisymm
  · unfold field
    rw [fold_maxsi_toInt, word_toInt]
    refine ⟨le_trans (b := (0 : ℤ)) (by decide) (by positivity), fun k _ => ?_⟩
    by_cases hk : E.val < k.val
    · rw [Ideal.cmp, show decide (v < Ideal.ieee 8 23 (word k.val)) = true from decide_eq_true (h2 k hk)]
      exact show (0#32 : BitVec 32).toInt ≤ _ from le_trans (b := (0 : ℤ)) (by decide) (by positivity)
    · by_cases hv : v < Ideal.ieee 8 23 (word k.val)
      · rw [Ideal.cmp, show decide (v < Ideal.ieee 8 23 (word k.val)) = true from decide_eq_true hv]
        exact show (0#32 : BitVec 32).toInt ≤ _ from le_trans (b := (0 : ℤ)) (by decide) (by positivity)
      · rw [Ideal.cmp, show decide (v < Ideal.ieee 8 23 (word k.val)) = false from decide_eq_false hv]
        refine (show (word k.val).toInt ≤ _ from ?_)
        rw [word_toInt]
        omega
  · exact hE ▸ ((fold_maxsi_toInt _ _ _ _).1 (le_refl (field v).toInt)).2 E (Finset.mem_univ E)

/-- Below the least normal float the field is zero. -/
theorem field_small (r : ℝ) (h0 : 0 ≤ r) (h : r < (2 : ℝ) ^ (-126 : ℤ)) : field (r : EReal) = word 0 := by
  refine field_eq _ ⟨0, by omega⟩ ?_ fun k hk => ?_
  · rw [ieee_word_zero]
    exact_mod_cast h0
  · have hk0 : 0 < k.val := hk
    by_cases h5 : k.val = 255
    · rw [h5, ieee_word_last]
      exact EReal.coe_lt_top r
    · rw [ieee_word k.val (by omega) (by omega)]
      exact EReal.coe_lt_coe_iff.2 (h.trans_le (zpow_le_zpow_right₀ (by norm_num) (by omega)))

/-- From the least normal float on the field is the whole part of the base-two logarithm, plus 127. -/
theorem field_large (r : ℝ) (n : ℤ) (hn : -126 ≤ n) (hn' : n ≤ 126) (h1 : (2 : ℝ) ^ n ≤ r) (h2 : r < (2 : ℝ) ^ (n + 1)) :
    field (r : EReal) = word (n + 127).toNat := by
  refine field_eq _ ⟨(n + 127).toNat, by omega⟩ ?_ fun k hk => ?_
  · show Ideal.ieee 8 23 (word (n + 127).toNat) ≤ _
    rw [ieee_word _ (by omega) (by omega), show (((n + 127).toNat : ℤ) - 127) = n by omega]
    exact_mod_cast h1
  · have hk0 : (n + 127).toNat < k.val := hk
    by_cases h5 : k.val = 255
    · rw [h5, ieee_word_last]
      exact EReal.coe_lt_top r
    · rw [ieee_word k.val (by omega) (by omega)]
      exact EReal.coe_lt_coe_iff.2 (h2.trans_le (zpow_le_zpow_right₀ (by norm_num) (by omega)))

/-- The scale's word of a zero field is the word of one. -/
theorem scaleWord_zero : scaleWord (word 0) = 0x3F800000#32 := by decide
/-- The factor's word of a zero field is the word of one. -/
theorem invWord_zero : invWord (word 0) = 0x3F800000#32 := by decide
/-- The scale's word of a field that is not zero is the next exponent word. -/
theorem scaleWord_word : ∀ k : Fin 253, 1 ≤ k.val → scaleWord (word k.val) = word (k.val + 1) := by decide +kernel
/-- The factor's word of a field that is not zero and at most 252 is the opposite exponent word. -/
theorem invWord_word : ∀ k : Fin 253, 1 ≤ k.val → invWord (word k.val) = word (253 - k.val) := by decide +kernel

/-- Two to a real power. -/
theorem two_coe (x : ℝ) : two (x : EReal) = (((2 : ℝ) ^ x : ℝ) : EReal) := by
  unfold two
  rw [ieee_two]
  rfl

/-- The exponent below the least normal float is zero. -/
theorem expo_small (r : ℝ) (h : r < (2 : ℝ) ^ (-126 : ℤ)) : expo (r : EReal) = ((0 : ℝ) : EReal) := by
  unfold expo
  rw [ieee_tiny, Ideal.cmp, show decide ((r : EReal) < (((2 : ℝ) ^ (-126 : ℤ) : ℝ) : EReal)) = true from
    decide_eq_true (by exact_mod_cast h)]
  show Ideal.ieee 8 23 0x00000000#32 = _
  simp [Ideal.ieee]

/-- The whole part of a base-two logarithm. -/
def whole (r : ℝ) : ℤ := ⌊Real.log r / Real.log 2⌋

/-- Two to the whole part of the logarithm is not above the number. -/
theorem whole_le (r : ℝ) (h : 0 < r) : (2 : ℝ) ^ whole r ≤ r := by
  have hl : 0 < Real.log 2 := Real.log_pos (by norm_num)
  rw [← Real.log_le_log_iff (by positivity) h, Real.log_zpow, ← le_div_iff₀ hl]
  exact Int.floor_le _

/-- Two to the next whole number is above the number. -/
theorem lt_whole (r : ℝ) (h : 0 < r) : r < (2 : ℝ) ^ (whole r + 1) := by
  have hl : 0 < Real.log 2 := Real.log_pos (by norm_num)
  rw [← Real.log_lt_log_iff h (by positivity), Real.log_zpow, ← div_lt_iff₀ hl]
  push_cast
  exact Int.lt_floor_add_one _

/-- The exponent from the least normal float on is one more than the whole part of the logarithm. -/
theorem expo_large (r : ℝ) (h : (2 : ℝ) ^ (-126 : ℤ) ≤ r) : expo (r : EReal) = (((whole r + 1 : ℤ) : ℝ) : EReal) := by
  have hr : 0 < r := lt_of_lt_of_le (by positivity) h
  unfold expo
  rw [ieee_tiny, Ideal.cmp, show decide ((r : EReal) < (((2 : ℝ) ^ (-126 : ℤ) : ℝ) : EReal)) = false from
    decide_eq_false (not_lt.2 (by exact_mod_cast h))]
  show Ideal.liftRound Int.floor (Ideal.div (Ideal.log (r : EReal)) (Ideal.log (Ideal.ieee 8 23 0x40000000#32)))
    + Ideal.ieee 8 23 0x3F800000#32 = _
  have hl : Real.log 2 ≠ 0 := (Real.log_pos (by norm_num)).ne'
  rw [ieee_two, ieee_one, Ideal.log_coe, Ideal.log_coe, if_neg (not_le.2 hr), if_neg (by norm_num), Ideal.div_coe hl,
    ← EReal.coe_mul, Ideal.liftRound_coe, ← EReal.coe_add]
  rw [mul_one_div]
  congr 1
  unfold whole
  push_cast
  ring

/-- For a value from zero up to `2 ^ 126` the float of the scale's word is two to the exponent, and the float of the factor's
    word is two to the opposite exponent. -/
theorem words_eq (r : ℝ) (h0 : 0 ≤ r) (h : r < (2 : ℝ) ^ (126 : ℤ)) :
    Ideal.ieee 8 23 (scaleWord (field (r : EReal))) = two (expo (r : EReal))
      ∧ Ideal.ieee 8 23 (invWord (field (r : EReal))) = two (-expo (r : EReal)) := by
  by_cases hs : r < (2 : ℝ) ^ (-126 : ℤ)
  · rw [field_small r h0 hs, expo_small r hs, scaleWord_zero, invWord_zero, ieee_one, ← EReal.coe_neg, two_coe, two_coe]
    simp
  · have hs := not_lt.1 hs
    have hr : 0 < r := lt_of_lt_of_le (by positivity) hs
    have l1 : (2 : ℝ) ^ whole r ≤ r := whole_le r hr
    have l2 : r < (2 : ℝ) ^ (whole r + 1) := lt_whole r hr
    have n1 : -126 ≤ whole r := by
      have := (zpow_lt_zpow_iff_right₀ (by norm_num : (1 : ℝ) < 2)).1 (hs.trans_lt l2)
      omega
    have n2 : whole r < 126 := (zpow_lt_zpow_iff_right₀ (by norm_num : (1 : ℝ) < 2)).1 (l1.trans_lt h)
    rw [expo_large r hs, field_large r (whole r) n1 n2.le l1 l2, ← EReal.coe_neg, two_coe, two_coe]
    generalize whole r = n at *
    have k1 : (n + 127).toNat < 253 := by omega
    rw [scaleWord_word ⟨(n + 127).toNat, k1⟩ (show 1 ≤ (n + 127).toNat by omega),
      invWord_word ⟨(n + 127).toNat, k1⟩ (show 1 ≤ (n + 127).toNat by omega)]
    rw [ieee_word _ (by omega) (by show (n + 127).toNat + 1 ≤ 254; omega),
      ieee_word _ (by show 1 ≤ 253 - (n + 127).toNat; omega) (by omega)]
    rw [show ((((n + 127).toNat + 1 : ℕ) : ℤ) - 127) = n + 1 by omega,
      show (((253 - (n + 127).toNat : ℕ) : ℤ) - 127) = -(n + 1) by omega]
    refine ⟨?_, ?_⟩
    · rw [Real.rpow_intCast]
    · rw [← Int.cast_neg, Real.rpow_intCast]

end Cert.Row

end
-- ==== Proof.Bound.lean ====
/- With finite gains, the scaled greatest value of a group is a real number from zero up to `2 ^ 126`. -/
module

public import proofs.«01_k».proof.Proof.Power

@[expose] public section

noncomputable section

namespace Cert.Row

open Idealize.ShloMosaic

/-- The real number of a positive normal float's word. -/
theorem ieee_normal (b : BitVec 32) (E F : ℕ) (h : b.extractLsb' 31 1 = 0#1 ∧ (b.extractLsb' 23 8).toNat = E ∧ (b.extractLsb' 0 23).toNat = F)
    (h1 : 1 ≤ E) (h2 : E ≤ 254) : Ideal.ieee 8 23 b = ((((2 ^ 23 + F : ℕ) : ℝ) * (2 : ℝ) ^ ((E : ℤ) - 127 - 23) : ℝ) : EReal) := by
  obtain ⟨a, b, c⟩ := h
  simp only [Ideal.ieee, a, b, c]
  rw [if_neg (by omega), if_neg (by omega)]
  congr 1
  norm_num

/-- The number of channels, as a float's word. -/
theorem ieee_width : Ideal.ieee 8 23 0x45600000#32 = ((3584 : ℝ) : EReal) := by
  rw [ieee_normal _ 138 6291456 (by decide) (by omega) (by omega)]
  norm_num

/-- The norm's small constant is a positive real. -/
theorem ieee_eps : ∃ e : ℝ, 0 < e ∧ Ideal.ieee 8 23 0x358637BD#32 = (e : EReal) :=
  ⟨_, by positivity, ieee_normal _ 107 407485 (by decide) (by omega) (by omega)⟩

/-- The constant 1/448 as a float is a positive real below 1/400. -/
theorem ieee_inv448 : ∃ q : ℝ, 0 < q ∧ q < 1 / 400 ∧ Ideal.ieee 8 23 0x3B124925#32 = (q : EReal) :=
  ⟨_, by positivity, by norm_num, ieee_normal _ 118 1198373 (by decide) (by omega) (by omega)⟩

/-- The greatest gain is below `2 ^ 128`. -/
theorem ieee_gain : ∃ q : ℝ, 0 ≤ q ∧ q < (2 : ℝ) ^ 128 ∧ Ideal.ieee 8 23 0x7F7F0000#32 = (q : EReal) :=
  ⟨_, by positivity, by norm_num, ieee_normal _ 254 8323072 (by decide) (by omega) (by omega)⟩

/-- An extended real whose absolute value is at most a real is a real. -/
theorem real_of_abs_le (x : EReal) (q : ℝ) (h : max x (-x) ≤ (q : EReal)) : ∃ r : ℝ, x = (r : EReal) ∧ |r| ≤ q := by
  induction x with
  | bot => simp at h
  | top => simp at h
  | coe r =>
    refine ⟨r, rfl, ?_⟩
    rw [max_le_iff, ← EReal.coe_neg, EReal.coe_le_coe_iff, EReal.coe_le_coe_iff] at h
    exact abs_le.2 ⟨by linarith, h.1⟩

/-- A square is not negative. -/
theorem sq_nonneg (x : EReal) : 0 ≤ x * x := by
  induction x with
  | bot => simp
  | top => simp
  | coe r => rw [← EReal.coe_mul]; exact_mod_cast mul_self_nonneg r

/-- A sum of reals, taken in the extended reals. -/
theorem coe_sum {ι : Type} (s : Finset ι) (w : ι → ℝ) : ((∑ k ∈ s, w k : ℝ) : EReal) = ∑ k ∈ s, (w k : EReal) := by
  classical
  induction s using Finset.induction_on with
  | empty => simp
  | insert a s ha ih => rw [Finset.sum_insert ha, Finset.sum_insert ha, EReal.coe_add, ih]

/-- A normed row is bounded: each of its elements is a real below 60. -/
theorem normed_bound (f : Fin 3584 → EReal) (c : Fin 3584) : ∃ r : ℝ, f c * rs f = (r : EReal) ∧ |r| ≤ 60 := by
  obtain ⟨e, he, hee⟩ := ieee_eps
  by_cases hf : ∀ k, ∃ x : ℝ, f k = (x : EReal)
  · choose x hx using hf
    have hs : (∑ k, f k * f k) = ((∑ k, x k * x k : ℝ) : EReal) := by
      rw [coe_sum]
      exact Finset.sum_congr rfl fun k _ => by rw [hx k, EReal.coe_mul]
    have hn : 0 ≤ ∑ k, x k * x k := Finset.sum_nonneg fun k _ => mul_self_nonneg _
    have hp : 0 < (∑ k, x k * x k) * (1 / 3584) + e := by positivity
    have hr : rs f = (((Real.sqrt ((∑ k, x k * x k) * (1 / 3584) + e))⁻¹ : ℝ) : EReal) := by
      unfold rs
      rw [hs, ieee_width, hee, Ideal.div_coe (by norm_num), ← EReal.coe_mul, ← EReal.coe_add, Ideal.rsqrt_coe,
        if_neg (not_lt.2 hp.le), if_neg hp.ne']
    refine ⟨x c * (Real.sqrt ((∑ k, x k * x k) * (1 / 3584) + e))⁻¹, by rw [hr, hx c, EReal.coe_mul], ?_⟩
    have h1 : x c * x c ≤ ∑ k, x k * x k := Finset.single_le_sum (f := fun k => x k * x k) (fun k _ => mul_self_nonneg _) (Finset.mem_univ c)
    have hsq : 0 < Real.sqrt ((∑ k, x k * x k) * (1 / 3584) + e) := Real.sqrt_pos.2 hp
    rw [abs_mul, abs_inv, abs_of_pos hsq, ← div_eq_mul_inv, div_le_iff₀ hsq]
    refine abs_le_of_sq_le_sq (a := x c) (b := 60 * Real.sqrt ((∑ k, x k * x k) * (1 / 3584) + e)) ?_ (by positivity)
    rw [mul_pow, Real.sq_sqrt hp.le]
    nlinarith
  · push Not at hf
    obtain ⟨k, hk⟩ := hf
    have ht : f k * f k = ⊤ := by
      induction h : f k with
      | bot => simp
      | top => simp
      | coe r => exact absurd h (hk r)
    have hs : (∑ k, f k * f k) = ⊤ :=
      top_le_iff.1 (ht ▸ Finset.single_le_sum (f := fun k => f k * f k) (fun k _ => sq_nonneg _) (Finset.mem_univ k))
    have hr : rs f = 0 := by
      unfold rs
      rw [hs, ieee_width, hee, Ideal.div_coe (by norm_num), EReal.top_mul_coe_of_pos (by norm_num), EReal.top_add_coe, Ideal.rsqrt_top]
    exact ⟨0, by rw [hr, mul_zero, EReal.coe_zero], by norm_num⟩

/-- With finite gains, the scaled greatest value of a group is a real from zero up to `2 ^ 126`. -/
theorem amax_bound (f g : Fin 3584 → EReal) (hg : ∀ c, max (g c) (-g c) ≤ Ideal.ieee 8 23 0x7F7F0000#32) (j : Fin 28) :
    ∃ r : ℝ, amax (fun l => y f g (col j l)) = (r : EReal) ∧ 0 ≤ r ∧ r < (2 : ℝ) ^ (126 : ℤ) := by
  obtain ⟨G, hG0, hG, hGe⟩ := ieee_gain
  obtain ⟨q, hq, hq', hqe⟩ := ieee_inv448
  have hy : ∀ c, max (y f g c) (-y f g c) ≤ ((60 * G : ℝ) : EReal) := fun c => by
    obtain ⟨r, hr, hr'⟩ := normed_bound f c
    obtain ⟨s, hs, hs'⟩ := real_of_abs_le (g c) G (hGe ▸ hg c)
    unfold y
    rw [hr, hs, ← EReal.coe_mul, ← EReal.coe_neg, max_le_iff, EReal.coe_le_coe_iff, EReal.coe_le_coe_iff]
    have : |r * s| ≤ 60 * G := by rw [abs_mul]; exact mul_le_mul hr' hs' (abs_nonneg _) (by norm_num)
    exact ⟨(le_abs_self _).trans this, (neg_le_abs _).trans this⟩
  unfold amax
  have hX : (Finset.univ : Finset (Fin 128)).fold max (Ideal.ieee 8 23 0xFF800000#32)
      (fun l => max (y f g (col j l)) (-y f g (col j l))) ≤ ((60 * G : ℝ) : EReal) :=
    (Finset.fold_max_le _).2 ⟨by simp [Ideal.ieee], fun l _ => hy _⟩
  have hX0 : 0 ≤ (Finset.univ : Finset (Fin 128)).fold max (Ideal.ieee 8 23 0xFF800000#32)
      (fun l => max (y f g (col j l)) (-y f g (col j l))) :=
    (Finset.le_fold_max _).2 (Or.inr ⟨0, Finset.mem_univ _, by
      rcases le_total 0 (y f g (col j 0)) with h | h
      · exact h.trans (le_max_left _ _)
      · exact (EReal.neg_nonneg.2 h).trans (le_max_right _ _)⟩)
  generalize (Finset.univ : Finset (Fin 128)).fold max (Ideal.ieee 8 23 0xFF800000#32)
      (fun l => max (y f g (col j l)) (-y f g (col j l))) = X at hX hX0
  induction X with
  | bot => simp at hX0
  | top => exact absurd hX (not_le.2 (EReal.coe_lt_top _))
  | coe x =>
    have hx : x ≤ 60 * G := EReal.coe_le_coe_iff.1 hX
    have hx0 : 0 ≤ x := by exact_mod_cast hX0
    refine ⟨x * q, by rw [hqe, EReal.coe_mul], by positivity, ?_⟩
    have e : x * q ≤ 60 * G * (1 / 400) := mul_le_mul hx hq'.le hq.le (by positivity)
    refine e.trans_lt ?_
    norm_num at hG ⊢
    linarith

end Cert.Row

end
-- ==== Proof.Group.lean ====
/- What the kernel's vector operations compute on one chunk of 32 rows, index by index. -/
module

public import proofs.«01_k».proof.KernelIdeal
public import proofs.«01_k».proof.Proof.Gen.KernelIdeal
public import proofs.«01_k».proof.Proof.Row
public import Idealize.ShloMosaic.Lib.ValueIdx
public import Idealize.ShloMosaic.Lib.ValueLayout
public import Idealize.ShloMosaic.Lib.ValueLayoutCasts
public import Idealize.ShloMosaic.Lib.Pipeline.Value

@[expose] public section

noncomputable section

namespace Cert.KernelIdeal.Hand

open Idealize.ShloMosaic Idealize.ShloMosaic.ValueIdx Cert.KernelIdeal
open Facts₀ Facts Cert

/-- A chunk of the sum of the two operands. -/
def nrV (a b : FVec Ideal S32x256 .bf16) : FVec Ideal S32x256 .bf16 :=
  truncf .bf16 (addf (extf .f32 (shapeCast S32x256 a shapeCasts_S32x256_S32x256) bitsLt_bf16_f32)
    (extf .f32 (shapeCast S32x256 b shapeCasts_S32x256_S32x256) bitsLt_bf16_f32)) bitsLt_bf16_f32

/-- The sum of two vectors at an index. -/
theorem nrV_apply (a b : FVec Ideal S32x256 .bf16) (x : S32x256.Idx) : nrV a b x = (a x : EReal) + b x := by
  unfold nrV
  rw [shapeCast_self, shapeCast_self]
  rfl

/-- Group `h` (the left or right half) of a chunk normed and scaled by the gains. -/
def yV (off : Fin 2 → ℕ) (hoff : S32x256.Slices off S32x128) (nr : FVec Ideal S32x256 .bf16) (r : FVec Ideal S32x1 .f32)
    (g : FVec Ideal S1x128 .bf16) : FVec Ideal S32x128 .f32 :=
  mulf (mulf (extractStridedSlice S32x128 off (extf .f32 (shapeCast S32x256 nr shapeCasts_S32x256_S32x256) bitsLt_bf16_f32) hoff)
      (broadcastTo S32x128 r broadcasts_S32x1_S32x128))
    (broadcastTo S32x128 (extf .f32 (shapeCast S1x128 g shapeCasts_S1x128_S1x128) bitsLt_bf16_f32) broadcasts_S1x128_S32x128)

/-- The exponent fields of a group, one for each row. -/
def fieldV (u : FVec Ideal S32x128 .f32) : IVec S32x1 32 :=
  shapeCast S32x1 (multiReductionI .maxsi [1] S32
    (select (cmpf .olt (broadcastTo S32x256 (mulf (shapeCast S32x1
        (multiReduction .maximumf [1] S32 (absf u) 0xFF800000#32 reduces_S32x128_S32 (.inl rfl) rfl) shapeCasts_S32_S32x1)
          (broadcast S32x1 (Scalar.ofBits .f32 0x3B124925#32))) broadcasts_S32x1_S32x256)
        (bitcastToFloat .f32 (muli (iota .tc S32x256 32 [1] iota_S32x256_d1_w32) (broadcast S32x256 8388608#32))))
      (broadcast S32x256 0#32) (muli (iota .tc S32x256 32 [1] iota_S32x256_d1_w32) (broadcast S32x256 8388608#32)))
    2147483648#32 reduces_S32x256_S32 rfl) shapeCasts_S32_S32x1

/-- The codes of a group. -/
def codeV (u : FVec Ideal S32x128 .f32) (e : IVec S32x1 32) : FVec Ideal S32x128 .fp8e4m3 :=
  truncf .fp8e4m3 (minimumf (broadcast S32x128 (Scalar.ofBits .f32 0x43E00000#32))
    (maximumf (broadcast S32x128 (Scalar.ofBits .f32 0xC3E00000#32))
      (mulf u (broadcastTo S32x128 (bitcastToFloat .f32
        (select (cmpi .eq e (broadcast S32x1 0#32)) (broadcast S32x1 1065353216#32)
          (subi (broadcast S32x1 2122317824#32) e))) broadcasts_S32x1_S32x128)))) bitsLt_fp8e4m3_f32

/-- The fields of group `n` put in lane `n` of the chunk's table of fields. -/
def laneV (n : BitVec 32) (e : IVec S32x1 32) (old : IVec S32x128 32) : IVec S32x128 32 :=
  select (cmpi .eq (iota .tc S32x128 32 [1] iota_S32x128_d1_w32) (broadcast S32x128 n))
    (broadcastTo S32x128 (shapeCast S32x1 e shapeCasts_S32x1_S32x1) broadcasts_S32x1_S32x128) old

/-- The left half's squares added to a running sum, then the right half's. -/
def accV (acc : FVec Ideal S32x128 .f32) (v : FVec Ideal S32x256 .bf16) : FVec Ideal S32x128 .f32 :=
  addf (addf acc (extractStridedSlice S32x128 ![0, 0] (mulf (extf .f32 v bitsLt_bf16_f32) (extf .f32 v bitsLt_bf16_f32)) slices_S32x256_o0_0_S32x128))
    (extractStridedSlice S32x128 ![0, 128] (mulf (extf .f32 v bitsLt_bf16_f32) (extf .f32 v bitsLt_bf16_f32)) slices_S32x256_o0_128_S32x128)

/-- The first chunk's squares, left half plus right half. -/
def acc0V (v : FVec Ideal S32x256 .bf16) : FVec Ideal S32x128 .f32 :=
  addf (extractStridedSlice S32x128 ![0, 0] (mulf (extf .f32 v bitsLt_bf16_f32) (extf .f32 v bitsLt_bf16_f32)) slices_S32x256_o0_0_S32x128)
    (extractStridedSlice S32x128 ![0, 128] (mulf (extf .f32 v bitsLt_bf16_f32) (extf .f32 v bitsLt_bf16_f32)) slices_S32x256_o0_128_S32x128)

/-- The rows' reciprocal root mean squares, from the lanes' sums of squares. -/
def rsV (acc : FVec Ideal S32x128 .f32) : FVec Ideal S32x1 .f32 :=
  rsqrt (addf (divf (shapeCast S32x1 (multiReduction .add [1] S32 acc 0x00000000#32 reduces_S32x128_S32 (.inl rfl) rfl) shapeCasts_S32_S32x1)
    (broadcast S32x1 (Scalar.ofBits .f32 0x45600000#32))) (broadcast S32x1 (Scalar.ofBits .f32 0x358637BD#32)))

/-- The index of lane `l` in row `i` of 128 lanes. -/
theorem lift128 (i : Fin 32) (l : Fin 128) : (reduces_S32x128_S32 : S32x128.Reduces [1] S32).lift (ix1 i) l = ix2 i l := by
  funext a; match a with | ⟨0, _⟩ => rfl | ⟨1, _⟩ => rfl

/-- The index of lane `l` in row `i` of 256 lanes. -/
theorem lift256 (i : Fin 32) (l : Fin 256) : (reduces_S32x256_S32 : S32x256.Reduces [1] S32).lift (ix1 i) l = ix2 i l := by
  funext a; match a with | ⟨0, _⟩ => rfl | ⟨1, _⟩ => rfl

/-- A column spread over the lanes reads the column. -/
theorem spread_apply {α : Type} (e : S32x1.Idx → α) (i : Fin 32) (l : Fin 128) :
    broadcastTo S32x128 e broadcasts_S32x1_S32x128 (ix2 i l) = e (ix2 i 0) := by
  unfold broadcastTo
  congr 1
  funext a; match a with | ⟨0, _⟩ => rfl | ⟨1, _⟩ => rfl

/-- A column spread over 256 lanes reads the column. -/
theorem spread256_apply {α : Type} (e : S32x1.Idx → α) (i : Fin 32) (l : Fin 256) :
    broadcastTo S32x256 e broadcasts_S32x1_S32x256 (ix2 i l) = e (ix2 i 0) := by
  unfold broadcastTo
  congr 1
  funext a; match a with | ⟨0, _⟩ => rfl | ⟨1, _⟩ => rfl

/-- A half of a chunk at an index: the chunk at the index moved right by the offset. -/
theorem half_apply {α : Type} (o : ℕ) (hoff : S32x256.Slices ![0, o] S32x128) (v : S32x256.Idx → α) (i : Fin 32) (l : Fin 128)
    (m : Fin 256) (hm : m.val = o + l.val) : extractStridedSlice S32x128 ![0, o] v hoff (ix2 i l) = v (ix2 i m) := by
  unfold extractStridedSlice
  congr 1
  funext a; match a with
  | ⟨0, _⟩ => exact Fin.ext (Nat.zero_add _)
  | ⟨1, _⟩ => exact Fin.ext hm.symm

/-- A normed group at an index. -/
theorem yV_apply (o : ℕ) (hoff : S32x256.Slices ![0, o] S32x128) (nr : FVec Ideal S32x256 .bf16) (r : FVec Ideal S32x1 .f32)
    (g : FVec Ideal S1x128 .bf16) (i : Fin 32) (l : Fin 128) (m : Fin 256) (hm : m.val = o + l.val) :
    yV ![0, o] hoff nr r g (ix2 i l) = (nr (ix2 i m) : EReal) * r (ix2 i 0) * g (ix2 0 l) := by
  unfold yV
  rw [shapeCast_self, shapeCast_self]
  show (extractStridedSlice S32x128 ![0, o] nr hoff (ix2 i l) : EReal) * broadcastTo S32x128 r broadcasts_S32x1_S32x128 (ix2 i l)
    * broadcastTo S32x128 g broadcasts_S1x128_S32x128 (ix2 i l) = _
  rw [half_apply o hoff nr i l m hm, spread_apply]
  congr 1
  unfold broadcastTo
  congr 1
  funext a; match a with | ⟨0, _⟩ => rfl | ⟨1, _⟩ => rfl

/-- The lanes' greatest, as a column. -/
theorem maxV_apply (u : FVec Ideal S32x128 .f32) (i : Fin 32) :
    shapeCast S32x1 (multiReduction .maximumf [1] S32 u 0xFF800000#32 reduces_S32x128_S32 (.inl rfl) rfl) shapeCasts_S32_S32x1 (ix2 i 0)
      = (Finset.univ : Finset (Fin 128)).fold max (Ideal.ieee 8 23 0xFF800000#32) fun l => u (ix2 i l) := by
  refine (shapeCast_a_a1_apply _ _ i 0).trans
    ((Ideal.multiReduction_maximumf_single u _ reduces_S32x128_S32 (.inl rfl) rfl (ix1 i)).trans ?_)
  refine Finset.fold_congr fun l _ => ?_
  exact congrArg u (lift128 i l)

/-- The lanes' sum, as a column. -/
theorem sumV_apply (u : FVec Ideal S32x128 .f32) (i : Fin 32) :
    shapeCast S32x1 (multiReduction .add [1] S32 u 0x00000000#32 reduces_S32x128_S32 (.inl rfl) rfl) shapeCasts_S32_S32x1 (ix2 i 0)
      = ∑ l : Fin 128, (u (ix2 i l) : EReal) := by
  refine (shapeCast_a_a1_apply _ _ i 0).trans
    ((Ideal.multiReduction_add_single u _ reduces_S32x128_S32 (.inl rfl) rfl (ix1 i)).trans ?_)
  exact Finset.sum_congr rfl fun l _ => congrArg u (lift128 i l)

/-- The lanes' greatest signed word, as a column. -/
theorem maxsV_apply (u : IVec S32x256 32) (i : Fin 32) :
    shapeCast S32x1 (multiReductionI .maxsi [1] S32 u 2147483648#32 reduces_S32x256_S32 rfl) shapeCasts_S32_S32x1 (ix2 i 0)
      = (Finset.univ : Finset (Fin 256)).fold IntOp.maxsi 2147483648#32 fun l => u (ix2 i l) := by
  refine (shapeCast_a_a1_apply _ _ i 0).trans
    ((multiReductionI_eq_fold .maxsi u _ reduces_S32x256_S32 rfl (ix1 i)).trans ?_)
  refine (Shape.Reduces.fold_filter_drop_single (a := (1 : Fin S32x256.rank)) reduces_S32x256_S32 IntOp.maxsi _ u (ix1 i)).trans ?_
  refine Finset.fold_congr fun l _ => ?_
  exact congrArg u (lift256 i l)

/-- Lane `k` of the exponent words. -/
theorem wordV_apply (i : Fin 32) (k : Fin 256) :
    (muli (iota .tc S32x256 32 [1] iota_S32x256_d1_w32) (broadcast S32x256 8388608#32) : IVec S32x256 32) (ix2 i k) = Row.word k.val := by
  show BitVec.ofNat 32 (0 * 256 + k.val) * 8388608#32 = _
  rw [Nat.zero_mul, Nat.zero_add]; rfl

/-- A word kept where the float of the word is not above the value, zero elsewhere, at an index. -/
theorem keepV_apply (v : FVec Ideal S32x256 .f32) (z w : IVec S32x256 32) (x : S32x256.Idx) (a : EReal) (n : BitVec 32)
    (ha : v x = a) (hn : w x = n) (hz : z x = 0#32) :
    select (cmpf .olt v (bitcastToFloat .f32 w)) z w x
      = Scalar.select (Ideal.cmp .olt a (Ideal.ieee 8 23 n)) 0#32 n := by
  subst ha hn
  rw [← hz]
  rfl

/-- A column times a constant. -/
theorem timesV_apply (v c : FVec Ideal S32x1 .f32) (x : S32x1.Idx) (a b : EReal) (ha : v x = a) (hb : c x = b) :
    mulf v c x = a * b := by
  subst ha hb
  rfl

/-- The exponent word of a row of a group. -/
theorem fieldV_apply (u : FVec Ideal S32x128 .f32) (i : Fin 32) :
    fieldV u (ix2 i 0) = Row.field (Row.amax fun l => u (ix2 i l)) := by
  unfold fieldV Row.field
  refine (maxsV_apply _ i).trans (Finset.fold_congr fun k _ => ?_)
  refine keepV_apply _ _ _ _ _ _ ?_ (wordV_apply i k) rfl
  refine (spread256_apply _ i k).trans ?_
  unfold Row.amax
  exact timesV_apply _ _ _ _ _ (maxV_apply (absf u) i) rfl

/-- The code at an index of a group. -/
theorem codeV_apply (u : FVec Ideal S32x128 .f32) (e : IVec S32x1 32) (i : Fin 32) (l : Fin 128) :
    codeV u e (ix2 i l) = Row.clip ((u (ix2 i l) : EReal) * Ideal.ieee 8 23 (Row.invWord (e (ix2 i 0)))) := by
  unfold codeV
  show Row.clip ((u (ix2 i l) : EReal) * broadcastTo S32x128 _ broadcasts_S32x1_S32x128 (ix2 i l)) = _
  rw [spread_apply]
  rfl

/-- A lane of the exponent words after one group's word is put in. -/
theorem laneV_apply (n : BitVec 32) (e : IVec S32x1 32) (old : IVec S32x128 32) (i : Fin 32) (l : Fin 128) :
    laneV n e old (ix2 i l) = Scalar.select (IntOp.cmpi .eq (BitVec.ofNat 32 l.val) n) (e (ix2 i 0)) (old (ix2 i l)) := by
  unfold laneV
  rw [shapeCast_self]
  show Scalar.select (IntOp.cmpi .eq (BitVec.ofNat 32 (0 * 128 + l.val)) n) (broadcastTo S32x128 e broadcasts_S32x1_S32x128 (ix2 i l)) _ = _
  rw [spread_apply, Nat.zero_mul, Nat.zero_add]

/-- The reciprocal root mean square of a row. -/
theorem rsV_apply (acc : FVec Ideal S32x128 .f32) (i : Fin 32) :
    rsV acc (ix2 i 0) = Ideal.rsqrt (Ideal.div (∑ l : Fin 128, (acc (ix2 i l) : EReal)) (Ideal.ieee 8 23 0x45600000#32) + Ideal.ieee 8 23 0x358637BD#32) := by
  exact congrArg (fun z : EReal => Ideal.rsqrt (Ideal.div z (Ideal.ieee 8 23 0x45600000#32) + Ideal.ieee 8 23 0x358637BD#32)) (sumV_apply acc i)

/-- The first chunk's squares at an index. -/
theorem acc0V_apply (v : FVec Ideal S32x256 .bf16) (i : Fin 32) (l : Fin 128) :
    acc0V v (ix2 i l) = (v (ix2 i ⟨l.val, by omega⟩) : EReal) * v (ix2 i ⟨l.val, by omega⟩)
      + v (ix2 i ⟨128 + l.val, by omega⟩) * v (ix2 i ⟨128 + l.val, by omega⟩) :=
  congrArg₂ (fun a b : EReal => a + b) (half_apply 0 slices_S32x256_o0_0_S32x128 (mulf (extf .f32 v bitsLt_bf16_f32) (extf .f32 v bitsLt_bf16_f32)) i l ⟨l.val, by omega⟩ (Nat.zero_add _).symm)
    (half_apply 128 slices_S32x256_o0_128_S32x128 (mulf (extf .f32 v bitsLt_bf16_f32) (extf .f32 v bitsLt_bf16_f32)) i l ⟨128 + l.val, by omega⟩ rfl)

/-- One more chunk's squares at an index. -/
theorem accV_apply (acc : FVec Ideal S32x128 .f32) (v : FVec Ideal S32x256 .bf16) (i : Fin 32) (l : Fin 128) :
    accV acc v (ix2 i l) = (acc (ix2 i l) : EReal) + v (ix2 i ⟨l.val, by omega⟩) * v (ix2 i ⟨l.val, by omega⟩)
      + v (ix2 i ⟨128 + l.val, by omega⟩) * v (ix2 i ⟨128 + l.val, by omega⟩) :=
  congrArg₂ (fun a b : EReal => a + b) (congrArg (fun a : EReal => (acc (ix2 i l) : EReal) + a) (half_apply 0 slices_S32x256_o0_0_S32x128 (mulf (extf .f32 v bitsLt_bf16_f32) (extf .f32 v bitsLt_bf16_f32)) i l ⟨l.val, by omega⟩ (Nat.zero_add _).symm))
    (half_apply 128 slices_S32x256_o0_128_S32x128 (mulf (extf .f32 v bitsLt_bf16_f32) (extf .f32 v bitsLt_bf16_f32)) i l ⟨128 + l.val, by omega⟩ rfl)

end Cert.KernelIdeal.Hand

end
-- ==== Proof.Chunk.lean ====
/- One trip of the kernel's loop, first half: the chunk of 32 rows of the sum it stores, and the reciprocal root mean
   squares of those rows. -/
module

public import proofs.«01_k».proof.Proof.Group
public import proofs.«01_k».proof.Proof.Gen.KernelIdeal.Loops
import all proofs.«01_k».proof.Proof.Gen.KernelIdeal.Loops
public import Idealize.ShloMosaic.Lib.WholeRead
public import Idealize.ShloMosaic.Lib.Writes

@[expose] public section

noncomputable section

namespace Cert.KernelIdeal.Hand

open Idealize.ShloMosaic Idealize.ShloMosaic.ValueIdx Cert.KernelIdeal Cert.KernelIdeal.Gen
open Facts₀ Facts Cert

/-- Row `r` of the sum of the two operand blocks. -/
def rowOf (x0 x1 : FVec Ideal S256x3584 .bf16) (r : Fin 256) (c : Fin 3584) : EReal := (x0 (ix2 r c) : EReal) + x1 (ix2 r c)

/-- The gains. -/
def gainOf (x2 : FVec Ideal S1x3584 .bf16) (c : Fin 3584) : EReal := x2 (ix2 0 c)

/-- The block of the sum. -/
def nrB (x0 x1 : FVec Ideal S256x3584 .bf16) : FVec Ideal S256x3584 .bf16 := fun z => rowOf x0 x1 (z 0) (z 1)

/-- Row `i` of chunk `k`. -/
def rowIx (k : Fin k0_t1_loop.trips) (i : Fin 32) : Fin 256 :=
  ⟨32 * k.val + i.val, by have h : k.val < 8 := k.isLt; omega⟩

/-- An index of a 32-row rectangle at row `32 k` and column `o`, in the block. -/
theorem emb_chunk (w : ℕ) (off : Fin 2 → ℕ) (inb : ∀ a, off a + (![32, w] : Fin 2 → ℕ) a ≤ S256x3584.size a)
    (k : Fin k0_t1_loop.trips) (o : ℕ) (ho : off = ![32 * k.val, o]) (i : Fin 32) (m : Fin w) (c : Fin 3584) (hc : c.val = o + m.val) :
    (Rect.unit (s := S256x3584) off ![32, w] inb).emb (ix2 i m) = ix2 (rowIx k i) c := by
  subst ho
  funext a
  match a with
  | ⟨0, _⟩ => exact Fin.ext (by show 32 * k.val + 1 * i.val = 32 * k.val + i.val; omega)
  | ⟨1, _⟩ => exact Fin.ext (by show o + 1 * m.val = c.val; omega)

/-- Which indices of the block a 32-row rectangle holds. -/
theorem mem_chunk (w : ℕ) (off : Fin 2 → ℕ) (inb : ∀ a, off a + (![32, w] : Fin 2 → ℕ) a ≤ S256x3584.size a)
    (k : Fin k0_t1_loop.trips) (o : ℕ) (ho : off = ![32 * k.val, o]) (z : S256x3584.Idx) :
    z ∈ (Rect.unit (s := S256x3584) off ![32, w] inb).set
      ↔ (32 * k.val ≤ (z 0).val ∧ (z 0).val < 32 * k.val + 32) ∧ o ≤ (z 1).val ∧ (z 1).val < o + w := by
  subst ho
  rw [Rect.mem_set_unit]
  exact Fin.forall_fin_two

/-- A load of a whole operand block reads the block. -/
theorem load_apply {w : ℕ} {e : EltTy} (m : Memref sig .tc .vmem S256x3584 e) (h : m.IsWhole) (x : S256x3584.Idx → Elt Ideal e)
    (off : Fin 2 → ℕ) (inb : ∀ a, off a + (![32, w] : Fin 2 → ℕ) a ≤ S256x3584.size a)
    (z : (Rect.unit (s := S256x3584) off ![32, w] inb).shape.Idx) :
    View.readAt (Elt Ideal) m.view (Rect.unit (s := S256x3584) off ![32, w] inb).toLoadRect (h.unread x) z
      = x ((Rect.unit (s := S256x3584) off ![32, w] inb).emb z) :=
  h.readAt_unread x _ z

variable (arg1 : Memref sig .tc .vmem S256x3584 .bf16) (harg1 : arg1.IsWhole)
  (arg2 : Memref sig .tc .vmem S256x3584 .bf16) (harg2 : arg2.IsWhole)
  (x0 x1 : FVec Ideal S256x3584 .bf16)

/-- The sum of two loaded chunks is the block of the sum there. -/
theorem nr_load (off : Fin 2 → ℕ) (inb : ∀ a, off a + S32x256.size a ≤ S256x3584.size a) (z : S32x256.Idx) :
    nrV (View.readAt (Elt Ideal) arg1.view (Rect.unit (s := S256x3584) off S32x256.size inb).toLoadRect (harg1.unread x0))
        (View.readAt (Elt Ideal) arg2.view (Rect.unit (s := S256x3584) off S32x256.size inb).toLoadRect (harg2.unread x1)) z
      = nrB x0 x1 ((Rect.unit (s := S256x3584) off S32x256.size inb).emb z) := by
  rw [nrV_apply]
  have e := eq_ix2 ((Rect.unit (s := S256x3584) off S32x256.size inb).emb z)
  exact congrArg₂ (fun a b : EReal => a + b) ((load_apply arg1 harg1 x0 off inb z).trans (congrArg x0 e))
    ((load_apply arg2 harg2 x1 off inb z).trans (congrArg x1 e))

/-- Every piece a trip stores in the block of the sum is that block there. -/
theorem nr_pieces (k : Fin k0_t1_loop.trips) :
    ∀ p ∈ trip_k0_t1.sl.HW_arg4_14 (F := Ideal) arg1 arg2 (harg1.unread x0) (harg2.unread x1) k,
      ∀ z, p.2 z = nrB x0 x1 (p.1.emb z) := by
  intro p hp
  unfold trip_k0_t1.sl.HW_arg4_14 at hp
  simp only [List.mem_cons, List.not_mem_nil, or_false] at hp
  rcases hp with rfl | rfl | rfl | rfl | rfl | rfl | rfl | rfl | rfl | rfl | rfl | rfl | rfl | rfl <;>
    exact fun z => nr_load arg1 harg1 arg2 harg2 x0 x1 _ _ z

/-- The pieces a trip stores in the block of the sum cover the trip's 32 rows and no other. -/
theorem nr_cover (k : Fin k0_t1_loop.trips) (z : S256x3584.Idx) :
    (∃ p ∈ trip_k0_t1.sl.HW_arg4_14 (F := Ideal) arg1 arg2 (harg1.unread x0) (harg2.unread x1) k, z ∈ p.1.set)
      ↔ 32 * k.val ≤ (z 0).val ∧ (z 0).val < 32 * k.val + 32 := by
  unfold trip_k0_t1.sl.HW_arg4_14
  have h1 : (z 1).val < 3584 := (z 1).isLt
  simp only [List.exists_mem_cons_iff, List.not_mem_nil, false_and, exists_false, or_false,
    mem_chunk 256 _ _ k _ (k0_off1_eq k), mem_chunk 256 _ _ k _ (k0_off2_eq k), mem_chunk 256 _ _ k _ (k0_off3_eq k),
    mem_chunk 256 _ _ k _ (k0_off4_eq k), mem_chunk 256 _ _ k _ (k0_off5_eq k), mem_chunk 256 _ _ k _ (k0_off6_eq k),
    mem_chunk 256 _ _ k _ (k0_off7_eq k), mem_chunk 256 _ _ k _ (k0_off8_eq k), mem_chunk 256 _ _ k _ (k0_off9_eq k),
    mem_chunk 256 _ _ k _ (k0_off10_eq k), mem_chunk 256 _ _ k _ (k0_off11_eq k), mem_chunk 256 _ _ k _ (k0_off12_eq k),
    mem_chunk 256 _ _ k _ (k0_off13_eq k), mem_chunk 256 _ _ k _ (k0_off14_eq k)]
  omega

/-- What the trip reads back of the block of the sum is that block. -/
theorem nr_back (arg4 : Memref sig .tc .vmem S256x3584 .bf16) (k : Fin k0_t1_loop.trips)
    (off : Fin 2 → ℕ) (inb : ∀ a, off a + S32x256.size a ≤ S256x3584.size a) (o : ℕ) (ho : off = ![32 * k.val, o])
    (i : Fin 32) (m : Fin 256) (c : Fin 3584) (hc : c.val = o + m.val) :
    arg4.view.readCov (trip_k0_t1.sl.HW_arg4_14 (F := Ideal) arg1 arg2 (harg1.unread x0) (harg2.unread x1) k)
        (Rect.unit (s := S256x3584) off S32x256.size inb).toLoadRect (ix2 i m)
      = rowOf x0 x1 (rowIx k i) c := by
  have he := emb_chunk 256 off inb k o ho i m c hc
  refine (View.read_writes_apply_of_pieces _ _ (nrB x0 x1) _ (nr_pieces arg1 harg1 arg2 harg2 x0 x1 k) _ ?_).trans
    (congrArg (nrB x0 x1) he)
  rw [nr_cover]
  refine (congrArg (fun z : S256x3584.Idx => 32 * k.val ≤ (z 0).val ∧ (z 0).val < 32 * k.val + 32) he).mpr ?_
  show 32 * k.val ≤ 32 * k.val + i.val ∧ 32 * k.val + i.val < 32 * k.val + 32
  omega

/-- The squares of a row, by the channel's number. -/
def sqOf (x0 x1 : FVec Ideal S256x3584 .bf16) (r : Fin 256) (c : ℕ) : EReal :=
  if h : c < 3584 then rowOf x0 x1 r ⟨c, h⟩ * rowOf x0 x1 r ⟨c, h⟩ else 0

/-- The running sum of squares after the first `n` chunks of 256 channels. -/
def AccIs (k : Fin k0_t1_loop.trips) (n : ℕ) (acc : FVec Ideal S32x128 .f32) : Prop :=
  ∀ i l, acc (ix2 i l) = ∑ j ∈ Finset.range (2 * n), sqOf x0 x1 (rowIx k i) (128 * j + l.val)

/-- A chunk of 256 channels from channel `256 n` on. -/
def ChunkIs (k : Fin k0_t1_loop.trips) (n : ℕ) (v : FVec Ideal S32x256 .bf16) : Prop :=
  ∀ i m, (v (ix2 i m) : EReal) * v (ix2 i m) = sqOf x0 x1 (rowIx k i) (256 * n + m.val)

/-- The sum of two loads of 256 columns holds those columns of the rows of a chunk. -/
theorem chunkIs (k : Fin k0_t1_loop.trips) (n : ℕ) (hn : n < 14) (off : Fin 2 → ℕ) (inb : ∀ a, off a + S32x256.size a ≤ S256x3584.size a)
    (ho : off = ![32 * k.val, 256 * n]) :
    ChunkIs x0 x1 k n (nrV (View.readAt (Elt Ideal) arg1.view (Rect.unit (s := S256x3584) off S32x256.size inb).toLoadRect (harg1.unread x0))
        (View.readAt (Elt Ideal) arg2.view (Rect.unit (s := S256x3584) off S32x256.size inb).toLoadRect (harg2.unread x1))) := by
  intro i m
  have hc : 256 * n + m.val < 3584 := by omega
  unfold sqOf
  rw [dif_pos hc, nr_load, emb_chunk 256 off inb k (256 * n) ho i m ⟨_, hc⟩ rfl]
  rfl

/-- The first 256 columns' squares, folded to 128 lanes. -/
theorem accIs_zero (k : Fin k0_t1_loop.trips) (v : FVec Ideal S32x256 .bf16) (hv : ChunkIs x0 x1 k 0 v) : AccIs x0 x1 k 1 (acc0V v) := by
  intro i l
  rw [acc0V_apply, hv, hv]
  simp only [Nat.mul_one, Finset.sum_range_succ, Finset.sum_range_zero, zero_add, Nat.mul_zero]

/-- The squares of 256 more columns, added to the lanes. -/
theorem accIs_succ (k : Fin k0_t1_loop.trips) (n : ℕ) (acc : FVec Ideal S32x128 .f32) (v : FVec Ideal S32x256 .bf16)
    (hv : ChunkIs x0 x1 k n v) (ha : AccIs x0 x1 k n acc) : AccIs x0 x1 k (n + 1) (accV acc v) := by
  intro i l
  have e0 : 256 * n + l.val = 128 * (2 * n) + l.val := by omega
  have e1 : 256 * n + (128 + l.val) = 128 * (2 * n + 1) + l.val := by omega
  rw [accV_apply, hv, hv, ha, show 2 * (n + 1) = 2 * n + 1 + 1 by omega, Finset.sum_range_succ, Finset.sum_range_succ, ← e0, ← e1]

/-- From the complete sum of squares, the reciprocal root mean square of each row. -/
theorem rs_of_acc (k : Fin k0_t1_loop.trips) (acc : FVec Ideal S32x128 .f32) (ha : AccIs x0 x1 k 14 acc) (i : Fin 32) :
    rsV acc (ix2 i 0) = Row.rs (rowOf x0 x1 (rowIx k i)) := by
  rw [rsV_apply]
  exact congrArg (fun z : EReal => Ideal.rsqrt (Ideal.div z (Ideal.ieee 8 23 0x45600000#32) + Ideal.ieee 8 23 0x358637BD#32))
    ((Finset.sum_congr rfl fun l _ => ha i l).trans ((Row.sum_cols (sqOf x0 x1 (rowIx k i))).trans
      (Finset.sum_congr rfl fun c _ => dif_pos c.isLt)))

/-- The trip's reciprocal root mean squares. -/
theorem rs_apply (k : Fin k0_t1_loop.trips) (i : Fin 32) :
    trip_k0_t1.sl.r_9 (F := Ideal) arg1 arg2 (harg1.unread x0) (harg2.unread x1) k (ix2 i 0) = Row.rs (rowOf x0 x1 (rowIx k i)) := by
  have C := fun n hn off inb ho => chunkIs arg1 harg1 arg2 harg2 x0 x1 k n hn off inb ho
  have S := fun n acc v hv ha => accIs_succ x0 x1 k n acc v hv ha
  exact rs_of_acc x0 x1 k _ (S 13 _ _ (C 13 (by decide) _ _ (k0_off14_eq k)) (S 12 _ _ (C 12 (by decide) _ _ (k0_off13_eq k))
    (S 11 _ _ (C 11 (by decide) _ _ (k0_off12_eq k)) (S 10 _ _ (C 10 (by decide) _ _ (k0_off11_eq k))
    (S 9 _ _ (C 9 (by decide) _ _ (k0_off10_eq k)) (S 8 _ _ (C 8 (by decide) _ _ (k0_off9_eq k))
    (S 7 _ _ (C 7 (by decide) _ _ (k0_off8_eq k)) (S 6 _ _ (C 6 (by decide) _ _ (k0_off7_eq k))
    (S 5 _ _ (C 5 (by decide) _ _ (k0_off6_eq k)) (S 4 _ _ (C 4 (by decide) _ _ (k0_off5_eq k))
    (S 3 _ _ (C 3 (by decide) _ _ (k0_off4_eq k)) (S 2 _ _ (C 2 (by decide) _ _ (k0_off3_eq k))
    (S 1 _ _ (C 1 (by decide) _ _ (k0_off2_eq k)) (accIs_zero x0 x1 k _ (C 0 (by decide) _ _ (k0_off1_eq k)))))))))))))))) i

end Cert.KernelIdeal.Hand

end
-- ==== Proof.Trip.lean ====
/- One trip of the kernel's loop, second half: the 28 groups of codes and the table of exponent fields it stores. -/
module

public import proofs.«01_k».proof.Proof.Chunk
import all proofs.«01_k».proof.Proof.Gen.KernelIdeal.Loops

@[expose] public section

noncomputable section

namespace Cert.KernelIdeal.Hand

open Idealize.ShloMosaic Idealize.ShloMosaic.ValueIdx Cert.KernelIdeal Cert.KernelIdeal.Gen
open Facts₀ Facts Cert

/-- The block of codes. -/
def codeB (x0 x1 : FVec Ideal S256x3584 .bf16) (x2 : FVec Ideal S1x3584 .bf16) : FVec Ideal S256x3584 .fp8e4m3 :=
  fun z => Row.code (rowOf x0 x1 (z 0)) (gainOf x2) (z 1)

/-- The first `n` lanes of a row of the table of fields: the field of group `l` in lane `l`; zero in the others. -/
def lanes (f g : Fin 3584 → EReal) (n : ℕ) (l : Fin 128) : BitVec 32 :=
  if h : l.val < n ∧ l.val < 28 then Row.fieldAt f g ⟨l.val, h.2⟩ else 0#32

/-- The block's table of fields. -/
def fieldB (x0 x1 : FVec Ideal S256x3584 .bf16) (x2 : FVec Ideal S1x3584 .bf16) : IVec S256x128 32 :=
  fun z => lanes (rowOf x0 x1 (z 0)) (gainOf x2) 28 (z 1)

section Values

variable (x0 x1 : FVec Ideal S256x3584 .bf16) (x2 : FVec Ideal S1x3584 .bf16) (k : Fin k0_t1_loop.trips)

/-- A chunk of 256 channels of the sum, from channel `n0` on. -/
def NrIs (n0 : ℕ) (nr : FVec Ideal S32x256 .bf16) : Prop :=
  ∀ i m (c : Fin 3584), c.val = n0 + m.val → nr (ix2 i m) = rowOf x0 x1 (rowIx k i) c

/-- The column of reciprocal root mean squares. -/
def RsIs (r : FVec Ideal S32x1 .f32) : Prop := ∀ i, r (ix2 i 0) = Row.rs (rowOf x0 x1 (rowIx k i))

/-- The 128 gains from channel `c0` on. -/
def GainIs (c0 : ℕ) (g : FVec Ideal S1x128 .bf16) : Prop :=
  ∀ l (c : Fin 3584), c.val = c0 + l.val → g (ix2 0 l) = gainOf x2 c

variable {x0 x1 x2 k}

/-- A group of a chunk normed and scaled is that group of the row. -/
theorem y_apply {n0 o : ℕ} {hoff : S32x256.Slices ![0, o] S32x128} {nr : FVec Ideal S32x256 .bf16} {r : FVec Ideal S32x1 .f32}
    {g : FVec Ideal S1x128 .bf16} (ho : o ≤ 128) (hn : NrIs x0 x1 k n0 nr) (hr : RsIs x0 x1 k r) (hg : GainIs x2 (n0 + o) g)
    (i : Fin 32) (l : Fin 128) (c : Fin 3584) (hc : c.val = n0 + o + l.val) :
    yV ![0, o] hoff nr r g (ix2 i l) = Row.y (rowOf x0 x1 (rowIx k i)) (gainOf x2) c := by
  rw [yV_apply o hoff nr r g i l ⟨o + l.val, by omega⟩ rfl, hn i _ c (by show c.val = n0 + (o + l.val); omega), hr i, hg l c hc]
  rfl

/-- So the group's exponent field is the row's. -/
theorem field_apply {n0 o : ℕ} {hoff : S32x256.Slices ![0, o] S32x128} {nr : FVec Ideal S32x256 .bf16} {r : FVec Ideal S32x1 .f32}
    {g : FVec Ideal S1x128 .bf16} (ho : o ≤ 128) (hn : NrIs x0 x1 k n0 nr) (hr : RsIs x0 x1 k r) (hg : GainIs x2 (n0 + o) g)
    (i : Fin 32) (j : Fin 28) (hj : n0 + o = 128 * j.val) :
    fieldV (yV ![0, o] hoff nr r g) (ix2 i 0) = Row.fieldAt (rowOf x0 x1 (rowIx k i)) (gainOf x2) j := by
  rw [fieldV_apply]
  unfold Row.fieldAt
  congr 2
  funext l
  exact y_apply ho hn hr hg i l (Row.col j l) (by show 128 * j.val + l.val = n0 + o + l.val; omega)

/-- And the piece of codes stored at the group's columns is the block of codes there. -/
theorem code_piece {o c0 : ℕ} {hoff : S32x256.Slices ![0, o] S32x128} {nr : FVec Ideal S32x256 .bf16} {r : FVec Ideal S32x1 .f32}
    {g : FVec Ideal S1x128 .bf16} {off : Fin 2 → ℕ} {inb : ∀ a, off a + S32x128.size a ≤ S256x3584.size a}
    (hoc : off = ![32 * k.val, c0]) (hn : NrIs x0 x1 k (c0 - o) nr) (hr : RsIs x0 x1 k r) (hg : GainIs x2 c0 g)
    (ho : o ≤ 128 ∧ o ≤ c0 ∧ c0 % 128 = 0 ∧ c0 / 128 < 28) (z : S32x128.Idx) :
    codeV (yV ![0, o] hoff nr r g) (fieldV (yV ![0, o] hoff nr r g)) z
      = codeB x0 x1 x2 ((Rect.unit (s := S256x3584) off S32x128.size inb).emb z) := by
  obtain ⟨ho, hoc0, h128, h28⟩ := ho
  have hl : (z 1).val < 128 := (z 1).isLt
  have hc : c0 + (z 1).val < 3584 := by omega
  have hs : c0 - o + o = c0 := Nat.sub_add_cancel hoc0
  rw [← hs] at hg
  have he := emb_chunk 128 off inb k c0 hoc (z 0) (z 1) ⟨_, hc⟩ rfl
  rw [eq_ix2 z]
  refine Eq.trans ?_ (congrArg (codeB x0 x1 x2) he).symm
  refine (codeV_apply _ _ (z 0) (z 1)).trans ?_
  rw [y_apply ho hn hr hg (z 0) (z 1) ⟨_, hc⟩ (by rw [hs]), field_apply ho hn hr hg (z 0) ⟨_, h28⟩ (by show c0 - o + o = 128 * (c0 / 128); omega)]
  show _ = Row.code _ _ _
  unfold Row.code
  congr 5
  exact Fin.ext (by show c0 / 128 = (c0 + (z 1).val) / 128; omega)

variable (x0 x1 x2 k)

/-- The chunk's table of fields after `n` groups. -/
def LaneIs (n : ℕ) (e : IVec S32x128 32) : Prop :=
  ∀ i l, e (ix2 i l) = lanes (rowOf x0 x1 (rowIx k i)) (gainOf x2) n l

variable {x0 x1 x2 k}

/-- Before the first group no lane is filled. -/
theorem laneIs_zero : LaneIs x0 x1 x2 k 0 (broadcast S32x128 0#32) := by
  intro i l
  unfold lanes
  rw [dif_neg (by omega)]
  rfl

/-- After one more group its lane is filled. -/
theorem laneIs_succ {n o : ℕ} {hoff : S32x256.Slices ![0, o] S32x128} {nr : FVec Ideal S32x256 .bf16} {r : FVec Ideal S32x1 .f32}
    {g : FVec Ideal S1x128 .bf16} {old : IVec S32x128 32} (hold : LaneIs x0 x1 x2 k n old)
    (hn : NrIs x0 x1 k (128 * n - o) nr) (hr : RsIs x0 x1 k r) (hg : GainIs x2 (128 * n) g) (ho : o ≤ 128 ∧ o ≤ 128 * n ∧ n < 28) :
    LaneIs x0 x1 x2 k (n + 1) (laneV (BitVec.ofNat 32 n) (fieldV (yV ![0, o] hoff nr r g)) old) := by
  obtain ⟨ho, hon, h28⟩ := ho
  have hno : 128 * n - o + o = 128 * n := Nat.sub_add_cancel hon
  rw [← hno] at hg
  intro i l
  rw [laneV_apply, field_apply ho hn hr hg i ⟨n, h28⟩ hno, hold]
  have hl := l.isLt
  by_cases h : l.val = n
  · have e : IntOp.cmpi .eq (BitVec.ofNat 32 l.val) (BitVec.ofNat 32 n) = 1#1 := by rw [h]; simp [IntOp.cmpi]
    rw [e]
    unfold lanes
    have h' : l.val < n + 1 ∧ l.val < 28 := by omega
    rw [dif_pos h']
    subst h
    rfl
  · have hne : BitVec.ofNat 32 l.val ≠ BitVec.ofNat 32 n := fun he => h (by
      have := congrArg BitVec.toNat he
      simp only [BitVec.toNat_ofNat] at this
      omega)
    have e : IntOp.cmpi .eq (BitVec.ofNat 32 l.val) (BitVec.ofNat 32 n) = 0#1 := by
      show BitVec.ofBool (BitVec.ofNat 32 l.val == BitVec.ofNat 32 n) = 0#1
      rw [beq_eq_false_iff_ne.mpr hne]
      rfl
    rw [e]
    show lanes _ _ n l = _
    unfold lanes
    by_cases h' : l.val < n
    · rw [dif_pos (by omega), dif_pos (by omega)]
    · rw [dif_neg (by omega), dif_neg (by omega)]

/-- A chunk's full table of fields stored at its rows is the block's table there. -/
theorem field_piece {off : Fin 2 → ℕ} {inb : ∀ a, off a + S32x128.size a ≤ S256x128.size a} (ho : off = ![32 * k.val, 0])
    {e : IVec S32x128 32} (h : LaneIs x0 x1 x2 k 28 e) (z : S32x128.Idx) :
    k0_pay2 e z = fieldB x0 x1 x2 ((Rect.unit (s := S256x128) off S32x128.size inb).emb z) := by
  have he : (Rect.unit (s := S256x128) off S32x128.size inb).emb (ix2 (z 0) (z 1)) = ix2 (rowIx k (z 0)) (z 1) := by
    subst ho
    funext a
    match a with
    | ⟨0, _⟩ => exact Fin.ext (by show 32 * k.val + 1 * (z 0).val = 32 * k.val + (z 0).val; omega)
    | ⟨1, _⟩ => exact Fin.ext (by show 0 + 1 * (z 1).val = (z 1).val; omega)
  unfold k0_pay2
  rw [shapeCast_self, eq_ix2 z]
  exact (h (z 0) (z 1)).trans (congrArg (fieldB x0 x1 x2) he).symm

variable (k)

/-- Which indices of the table of fields a chunk's rectangle holds. -/
theorem mem_lanes (off : Fin 2 → ℕ) (inb : ∀ a, off a + S32x128.size a ≤ S256x128.size a)
    (ho : off = ![32 * k.val, 0]) (z : S256x128.Idx) :
    z ∈ (Rect.unit (s := S256x128) off S32x128.size inb).set
      ↔ 32 * k.val ≤ (z 0).val ∧ (z 0).val < 32 * k.val + 32 := by
  subst ho
  rw [Rect.mem_set_unit]
  refine (Fin.forall_fin_two (p := fun a => (![32 * k.val, 0] : Fin 2 → ℕ) a ≤ (z a).val ∧ (z a).val < (![32 * k.val, 0] : Fin 2 → ℕ) a + S32x128.size a)).trans ?_
  have h1 : (z 1).val < 128 := (z 1).isLt
  constructor
  · exact fun h => h.1
  · exact fun h => ⟨h, Nat.zero_le _, by show (z 1).val < 0 + 128; omega⟩

end Values

section Trip

variable (arg1 : Memref sig .tc .vmem S256x3584 .bf16) (harg1 : arg1.IsWhole)
  (arg2 : Memref sig .tc .vmem S256x3584 .bf16) (harg2 : arg2.IsWhole)
  (arg3 : Memref sig .tc .vmem S1x3584 .bf16) (harg3 : arg3.IsWhole)
  (arg4 : Memref sig .tc .vmem S256x3584 .bf16) (harg4 : arg4.IsWhole)
  (arg5 : Memref sig .tc .vmem S256x3584 .fp8e4m3) (harg5 : arg5.IsWhole)
  (arg6 : Memref sig .tc .vmem S1x28x256 .f32) (harg6 : arg6.IsWhole)
  (arg7 : Memref sig .tc .vmem S256x128 .i32) (harg7 : arg7.IsWhole)
  (x0 x1 : FVec Ideal S256x3584 .bf16) (x2 : FVec Ideal S1x3584 .bf16)

/-- A load of 128 gains. -/
theorem gain_load (o : ℕ) (inb : ∀ a, (![0, o] : Fin 2 → ℕ) a + S1x128.size a ≤ S1x3584.size a) :
    GainIs x2 o (View.readAt (Elt Ideal) arg3.view (Rect.unit (s := S1x3584) ![0, o] S1x128.size inb).toLoadRect (harg3.unread x2)) := by
  intro l c hc
  refine (harg3.readAt_unread (Val := Elt Ideal) x2 _ _).trans (congrArg (x2 : S1x3584.Idx → Ideal .bf16) ?_)
  funext a
  match a with
  | ⟨0, _⟩ => rfl
  | ⟨1, _⟩ => exact Fin.ext (by show o + 1 * l.val = c.val; omega)

/-- A chunk of the sum read back. -/
theorem nr_back_is (k : Fin k0_t1_loop.trips) (off : Fin 2 → ℕ) (inb : ∀ a, off a + S32x256.size a ≤ S256x3584.size a)
    (o : ℕ) (ho : off = ![32 * k.val, o]) :
    NrIs x0 x1 k o (arg4.view.readCov (trip_k0_t1.sl.HW_arg4_14 (F := Ideal) arg1 arg2 (harg1.unread x0) (harg2.unread x1) k)
        (Rect.unit (s := S256x3584) off S32x256.size inb).toLoadRect) :=
  fun i m c hc => nr_back arg1 harg1 arg2 harg2 x0 x1 arg4 k off inb o ho i m c hc

/-- The reciprocal roots of one trip are those of its rows. -/
theorem rs_trip (k : Fin k0_t1_loop.trips) :
    RsIs x0 x1 k (trip_k0_t1.sl.r_9 (F := Ideal) arg1 arg2 (harg1.unread x0) (harg2.unread x1) k) :=
  rs_apply arg1 harg1 arg2 harg2 x0 x1 k

set_option maxRecDepth 65536 in
set_option maxHeartbeats 4000000 in
/-- Every piece a trip stores in the block of codes is that block there. -/
theorem code_pieces (𝒱 : Variants) (c : Dev nD) (bd : Option 𝒱.V) (i : grid0.Coords) (k : Fin k0_t1_loop.trips)
    (f4 : BufTy.Contents (Elt Ideal) arg4.view.ty) (f5 : BufTy.Contents (Elt Ideal) arg5.view.ty) (f7 : BufTy.Contents (Elt Ideal) arg7.view.ty) :
    ∀ p ∈ (trip_k0_t1 (F := Ideal) 𝒱 c bd i arg1 harg1 arg2 harg2 arg3 harg3 arg4 harg4 arg5 harg5 arg6 harg6 arg7 harg7
        (harg1.unread x0) (harg2.unread x1) (harg3.unread x2) k).2.1 f4 f5 f7,
      ∀ z, p.2 z = codeB x0 x1 x2 (p.1.emb z) := by
  unfold trip_k0_t1
  dsimp only
  simp only [List.forall_mem_cons]
  have B := fun off inb o ho => nr_back_is arg1 harg1 arg2 harg2 arg4 x0 x1 k off inb o ho
  have R := rs_trip arg1 harg1 arg2 harg2 x0 x1 k
  have G := fun o inb => gain_load arg3 harg3 x2 o inb
  repeat' refine And.intro ?_ ?_
  all_goals first
    | exact fun p hp => absurd hp List.not_mem_nil
    | refine fun z => code_piece (hoff := ?_) ?_ ?_ R (G _ _) ?_ z
  all_goals first
    | decide
    | (refine B _ _ _ ?_
       first
       | with_reducible exact k0_off1_eq k
       | with_reducible exact k0_off2_eq k
       | with_reducible exact k0_off3_eq k
       | with_reducible exact k0_off4_eq k
       | with_reducible exact k0_off5_eq k
       | with_reducible exact k0_off6_eq k
       | with_reducible exact k0_off7_eq k
       | with_reducible exact k0_off8_eq k
       | with_reducible exact k0_off9_eq k
       | with_reducible exact k0_off10_eq k
       | with_reducible exact k0_off11_eq k
       | with_reducible exact k0_off12_eq k
       | with_reducible exact k0_off13_eq k
       | with_reducible exact k0_off14_eq k)
    | with_reducible exact k0_off15_eq k
    | with_reducible exact k0_off16_eq k
    | with_reducible exact k0_off17_eq k
    | with_reducible exact k0_off18_eq k
    | with_reducible exact k0_off19_eq k
    | with_reducible exact k0_off20_eq k
    | with_reducible exact k0_off21_eq k
    | with_reducible exact k0_off22_eq k
    | with_reducible exact k0_off23_eq k
    | with_reducible exact k0_off24_eq k
    | with_reducible exact k0_off25_eq k
    | with_reducible exact k0_off26_eq k
    | with_reducible exact k0_off27_eq k
    | with_reducible exact k0_off28_eq k
    | with_reducible exact k0_off29_eq k
    | with_reducible exact k0_off30_eq k
    | with_reducible exact k0_off31_eq k
    | with_reducible exact k0_off32_eq k
    | with_reducible exact k0_off33_eq k
    | with_reducible exact k0_off34_eq k
    | with_reducible exact k0_off35_eq k
    | with_reducible exact k0_off36_eq k
    | with_reducible exact k0_off37_eq k
    | with_reducible exact k0_off38_eq k
    | with_reducible exact k0_off39_eq k
    | with_reducible exact k0_off40_eq k
    | with_reducible exact k0_off41_eq k
    | with_reducible exact k0_off42_eq k

set_option maxRecDepth 65536 in
set_option maxHeartbeats 4000000 in
/-- The pieces of codes a trip stores cover the trip's 32 rows and no other. -/
theorem code_cover (𝒱 : Variants) (c : Dev nD) (bd : Option 𝒱.V) (i : grid0.Coords) (k : Fin k0_t1_loop.trips)
    (f4 : BufTy.Contents (Elt Ideal) arg4.view.ty) (f5 : BufTy.Contents (Elt Ideal) arg5.view.ty) (f7 : BufTy.Contents (Elt Ideal) arg7.view.ty) (z : S256x3584.Idx) :
    (∃ p ∈ (trip_k0_t1 (F := Ideal) 𝒱 c bd i arg1 harg1 arg2 harg2 arg3 harg3 arg4 harg4 arg5 harg5 arg6 harg6 arg7 harg7
        (harg1.unread x0) (harg2.unread x1) (harg3.unread x2) k).2.1 f4 f5 f7, z ∈ p.1.set)
      ↔ 32 * k.val ≤ (z 0).val ∧ (z 0).val < 32 * k.val + 32 := by
  unfold trip_k0_t1
  dsimp only
  have h1 : (z 1).val < 3584 := (z 1).isLt
  simp only [List.exists_mem_cons_iff, List.not_mem_nil, false_and, exists_false, or_false,
    mem_chunk 128 _ _ k _ (k0_off15_eq k), mem_chunk 128 _ _ k _ (k0_off16_eq k), mem_chunk 128 _ _ k _ (k0_off17_eq k),
    mem_chunk 128 _ _ k _ (k0_off18_eq k), mem_chunk 128 _ _ k _ (k0_off19_eq k), mem_chunk 128 _ _ k _ (k0_off20_eq k),
    mem_chunk 128 _ _ k _ (k0_off21_eq k), mem_chunk 128 _ _ k _ (k0_off22_eq k), mem_chunk 128 _ _ k _ (k0_off23_eq k),
    mem_chunk 128 _ _ k _ (k0_off24_eq k), mem_chunk 128 _ _ k _ (k0_off25_eq k), mem_chunk 128 _ _ k _ (k0_off26_eq k),
    mem_chunk 128 _ _ k _ (k0_off27_eq k), mem_chunk 128 _ _ k _ (k0_off28_eq k), mem_chunk 128 _ _ k _ (k0_off29_eq k),
    mem_chunk 128 _ _ k _ (k0_off30_eq k), mem_chunk 128 _ _ k _ (k0_off31_eq k), mem_chunk 128 _ _ k _ (k0_off32_eq k),
    mem_chunk 128 _ _ k _ (k0_off33_eq k), mem_chunk 128 _ _ k _ (k0_off34_eq k), mem_chunk 128 _ _ k _ (k0_off35_eq k),
    mem_chunk 128 _ _ k _ (k0_off36_eq k), mem_chunk 128 _ _ k _ (k0_off37_eq k), mem_chunk 128 _ _ k _ (k0_off38_eq k),
    mem_chunk 128 _ _ k _ (k0_off39_eq k), mem_chunk 128 _ _ k _ (k0_off40_eq k), mem_chunk 128 _ _ k _ (k0_off41_eq k),
    mem_chunk 128 _ _ k _ (k0_off42_eq k)]
  omega

/-- The pieces a trip stores in the block of the sum. -/
theorem nr_list (𝒱 : Variants) (c : Dev nD) (bd : Option 𝒱.V) (i : grid0.Coords) (k : Fin k0_t1_loop.trips)
    (f4 : BufTy.Contents (Elt Ideal) arg4.view.ty) (f5 : BufTy.Contents (Elt Ideal) arg5.view.ty) (f7 : BufTy.Contents (Elt Ideal) arg7.view.ty) :
    (trip_k0_t1 (F := Ideal) 𝒱 c bd i arg1 harg1 arg2 harg2 arg3 harg3 arg4 harg4 arg5 harg5 arg6 harg6 arg7 harg7
        (harg1.unread x0) (harg2.unread x1) (harg3.unread x2) k).1 f4 f5 f7
      = trip_k0_t1.sl.HW_arg4_14 (F := Ideal) arg1 arg2 (harg1.unread x0) (harg2.unread x1) k := by
  unfold trip_k0_t1
  rfl

set_option maxRecDepth 65536 in
set_option maxHeartbeats 4000000 in
/-- The one piece a trip stores in the table of fields is the table there. -/
theorem field_pieces (𝒱 : Variants) (c : Dev nD) (bd : Option 𝒱.V) (i : grid0.Coords) (k : Fin k0_t1_loop.trips)
    (f4 : BufTy.Contents (Elt Ideal) arg4.view.ty) (f5 : BufTy.Contents (Elt Ideal) arg5.view.ty) (f7 : BufTy.Contents (Elt Ideal) arg7.view.ty) :
    ∀ p ∈ (trip_k0_t1 (F := Ideal) 𝒱 c bd i arg1 harg1 arg2 harg2 arg3 harg3 arg4 harg4 arg5 harg5 arg6 harg6 arg7 harg7
        (harg1.unread x0) (harg2.unread x1) (harg3.unread x2) k).2.2.1 f4 f5 f7,
      ∀ z, p.2 z = fieldB x0 x1 x2 (p.1.emb z) := by
  unfold trip_k0_t1
  dsimp only
  simp only [List.forall_mem_cons]
  refine ⟨?_, fun p hp => absurd hp List.not_mem_nil⟩
  have B := fun off inb o ho => nr_back_is arg1 harg1 arg2 harg2 arg4 x0 x1 k off inb o ho
  have R := rs_trip arg1 harg1 arg2 harg2 x0 x1 k
  have G := fun o inb => gain_load arg3 harg3 x2 o inb
  suffices h : LaneIs x0 x1 x2 k 28 (trip_k0_t1.sl.r_95 (F := Ideal) arg1 arg2 arg3 arg4 (harg1.unread x0) (harg2.unread x1) (harg3.unread x2) k) from
    fun z => field_piece (k0_off43_eq k) h z
  unfold trip_k0_t1.sl.r_95 trip_k0_t1.sl.r_93 trip_k0_t1.sl.r_92 trip_k0_t1.sl.r_90 trip_k0_t1.sl.r_88
    trip_k0_t1.sl.r_87 trip_k0_t1.sl.r_86 trip_k0_t1.sl.r_84 trip_k0_t1.sl.r_83 trip_k0_t1.sl.r_82
    trip_k0_t1.sl.r_81 trip_k0_t1.sl.r_80 trip_k0_t1.sl.r_79 trip_k0_t1.sl.r_78 trip_k0_t1.sl.r_77
    trip_k0_t1.sl.r_76 trip_k0_t1.sl.r_75 trip_k0_t1.sl.r_74 trip_k0_t1.sl.r_73 trip_k0_t1.sl.r_72
    trip_k0_t1.sl.r_71 trip_k0_t1.sl.r_70 trip_k0_t1.sl.r_69 trip_k0_t1.sl.r_68 trip_k0_t1.sl.r_67
    trip_k0_t1.sl.r_66 trip_k0_t1.sl.r_65 trip_k0_t1.sl.r_64 trip_k0_t1.sl.r_63 trip_k0_t1.sl.r_61
    trip_k0_t1.sl.r_60 trip_k0_t1.sl.r_59 trip_k0_t1.sl.r_58 trip_k0_t1.sl.r_57 trip_k0_t1.sl.r_55
    trip_k0_t1.sl.r_54 trip_k0_t1.sl.r_52 trip_k0_t1.sl.r_51 trip_k0_t1.sl.r_50 trip_k0_t1.sl.r_48
    trip_k0_t1.sl.r_47 trip_k0_t1.sl.r_45 trip_k0_t1.sl.r_44 trip_k0_t1.sl.r_43 trip_k0_t1.sl.r_41
    trip_k0_t1.sl.r_40 trip_k0_t1.sl.r_38 trip_k0_t1.sl.r_37 trip_k0_t1.sl.r_36 trip_k0_t1.sl.r_34
    trip_k0_t1.sl.r_33 trip_k0_t1.sl.r_31 trip_k0_t1.sl.r_30 trip_k0_t1.sl.r_29 trip_k0_t1.sl.r_27
    trip_k0_t1.sl.r_26 trip_k0_t1.sl.r_24 trip_k0_t1.sl.r_23 trip_k0_t1.sl.r_22 trip_k0_t1.sl.r_20
    trip_k0_t1.sl.r_19 trip_k0_t1.sl.r_17 trip_k0_t1.sl.r_16 trip_k0_t1.sl.r_15 trip_k0_t1.sl.r_13
    trip_k0_t1.sl.r_12 trip_k0_t1.sl.r_10
  iterate 14
    refine laneIs_succ (o := 128) (hoff := Facts₀.slices_S32x256_o0_128_S32x128) ?_ ?_ R (G _ _) ?_
    refine laneIs_succ (o := 0) (hoff := Facts₀.slices_S32x256_o0_0_S32x128) ?_ ?_ R (G _ _) ?_
  exact laneIs_zero
  all_goals first
    | decide
    | (refine B _ _ _ ?_
       first
       | with_reducible exact k0_off1_eq k
       | with_reducible exact k0_off2_eq k
       | with_reducible exact k0_off3_eq k
       | with_reducible exact k0_off4_eq k
       | with_reducible exact k0_off5_eq k
       | with_reducible exact k0_off6_eq k
       | with_reducible exact k0_off7_eq k
       | with_reducible exact k0_off8_eq k
       | with_reducible exact k0_off9_eq k
       | with_reducible exact k0_off10_eq k
       | with_reducible exact k0_off11_eq k
       | with_reducible exact k0_off12_eq k
       | with_reducible exact k0_off13_eq k
       | with_reducible exact k0_off14_eq k)

/-- The piece a trip stores in the table of fields covers the trip's 32 rows and no other. -/
theorem field_cover (𝒱 : Variants) (c : Dev nD) (bd : Option 𝒱.V) (i : grid0.Coords) (k : Fin k0_t1_loop.trips)
    (f4 : BufTy.Contents (Elt Ideal) arg4.view.ty) (f5 : BufTy.Contents (Elt Ideal) arg5.view.ty) (f7 : BufTy.Contents (Elt Ideal) arg7.view.ty) (z : S256x128.Idx) :
    (∃ p ∈ (trip_k0_t1 (F := Ideal) 𝒱 c bd i arg1 harg1 arg2 harg2 arg3 harg3 arg4 harg4 arg5 harg5 arg6 harg6 arg7 harg7
        (harg1.unread x0) (harg2.unread x1) (harg3.unread x2) k).2.2.1 f4 f5 f7, z ∈ p.1.set)
      ↔ 32 * k.val ≤ (z 0).val ∧ (z 0).val < 32 * k.val + 32 := by
  unfold trip_k0_t1
  dsimp only
  have h1 : (z 1).val < 128 := (z 1).isLt
  simp only [List.exists_mem_cons_iff, List.not_mem_nil, false_and, exists_false, or_false, mem_lanes k _ _ (k0_off43_eq k)]

end Trip

end Cert.KernelIdeal.Hand

end
-- ==== Proof.Loop.lean ====
/- The kernel's loop: after its eight trips every row of the three buffers it stores into holds what the trip of that row
   stored there. -/
module

public import proofs.«01_k».proof.Proof.Trip

@[expose] public section

noncomputable section

namespace Cert.KernelIdeal.Hand

open Idealize.ShloMosaic Idealize.ShloMosaic.ValueIdx Cert.KernelIdeal Cert.KernelIdeal.Gen
open Facts₀ Facts Cert

/-- Pieces that all agree with `G` and between them cover the first `r` rows. -/
def Fill {C : ℕ} {e : EltTy} (G : (Shape.mk 2 ![256, C]).Idx → Elt Ideal e) (L : List (View.Piece (Elt Ideal) ⟨2, ![256, C]⟩ e)) (r : ℕ) : Prop :=
  (∀ p ∈ L, ∀ z, p.2 z = G (p.1.emb z)) ∧ ∀ z : (Shape.mk 2 ![256, C]).Idx, (z 0).val < r → ∃ p ∈ L, z ∈ p.1.set

/-- No store fills no rows. -/
theorem fill_nil {C : ℕ} {e : EltTy} (G : (Shape.mk 2 ![256, C]).Idx → Elt Ideal e) : Fill G [] 0 :=
  ⟨fun _ h => absurd h List.not_mem_nil, fun _ h => absurd h (Nat.not_lt_zero _)⟩

/-- The pieces of one more trip. -/
theorem fill_append {C : ℕ} {e : EltTy} {G : (Shape.mk 2 ![256, C]).Idx → Elt Ideal e}
    {L L' : List (View.Piece (Elt Ideal) ⟨2, ![256, C]⟩ e)} {k : ℕ} (hL' : Fill G L' (32 * k))
    (hG : ∀ p ∈ L, ∀ z, p.2 z = G (p.1.emb z))
    (hc : ∀ z : (Shape.mk 2 ![256, C]).Idx, (∃ p ∈ L, z ∈ p.1.set) ↔ 32 * k ≤ (z 0).val ∧ (z 0).val < 32 * k + 32) :
    Fill G (L ++ L') (32 * (k + 1)) := by
  refine ⟨fun p hp => (List.mem_append.mp hp).elim (hG p) (hL'.1 p), fun z hz => ?_⟩
  by_cases h : (z 0).val < 32 * k
  · obtain ⟨p, hp, hz'⟩ := hL'.2 z h
    exact ⟨p, List.mem_append_right _ hp, hz'⟩
  · obtain ⟨p, hp, hz'⟩ := (hc z).mpr ⟨Nat.le_of_not_lt h, by omega⟩
    exact ⟨p, List.mem_append_left _ hp, hz'⟩

/-- A buffer written with pieces that cover all its rows holds `G`. -/
theorem fill_read {C : ℕ} {e : EltTy} {G : (Shape.mk 2 ![256, C]).Idx → Elt Ideal e}
    {L : List (View.Piece (Elt Ideal) ⟨2, ![256, C]⟩ e)} (h : Fill G L 256)
    (a : Memref sig .tc .vmem ⟨2, ![256, C]⟩ e) (f : BufTy.Contents (Elt Ideal) a.view.ty) :
    a.view.read (Elt Ideal) (a.view.writes (Elt Ideal) f L) = G :=
  funext fun y => View.read_writes_apply_of_pieces a.view f G L h.1 y (h.2 y (y 0).isLt)

variable (arg1 : Memref sig .tc .vmem S256x3584 .bf16) (harg1 : arg1.IsWhole)
  (arg2 : Memref sig .tc .vmem S256x3584 .bf16) (harg2 : arg2.IsWhole)
  (arg3 : Memref sig .tc .vmem S1x3584 .bf16) (harg3 : arg3.IsWhole)
  (arg4 : Memref sig .tc .vmem S256x3584 .bf16) (harg4 : arg4.IsWhole)
  (arg5 : Memref sig .tc .vmem S256x3584 .fp8e4m3) (harg5 : arg5.IsWhole)
  (arg6 : Memref sig .tc .vmem S1x28x256 .f32) (harg6 : arg6.IsWhole)
  (arg7 : Memref sig .tc .vmem S256x128 .i32) (harg7 : arg7.IsWhole)
  (x0 x1 : FVec Ideal S256x3584 .bf16) (x2 : FVec Ideal S1x3584 .bf16)

/-- After `n` trips the first `32 n` rows of the sum, of the codes and of the table of fields are in place. -/
theorem loop_fill (𝒱 : Variants) (c : Dev nD) (bd : Option 𝒱.V) (i : grid0.Coords)
    (f4 : BufTy.Contents (Elt Ideal) arg4.view.ty) (f5 : BufTy.Contents (Elt Ideal) arg5.view.ty) (f7 : BufTy.Contents (Elt Ideal) arg7.view.ty) :
    ∀ n : ℕ, n ≤ 8 →
      Fill (C := 3584) (e := .bf16) (nrB x0 x1) (pb_k0_t1 (F := Ideal) 𝒱 c bd i arg1 harg1 arg2 harg2 arg3 harg3 arg4 harg4 arg5 harg5 arg6 harg6 arg7 harg7
        (harg1.unread x0) (harg2.unread x1) (harg3.unread x2) f4 f5 f7 n).1 (32 * n)
      ∧ Fill (C := 3584) (e := .fp8e4m3) (codeB x0 x1 x2) (pb_k0_t1 (F := Ideal) 𝒱 c bd i arg1 harg1 arg2 harg2 arg3 harg3 arg4 harg4 arg5 harg5 arg6 harg6 arg7 harg7
        (harg1.unread x0) (harg2.unread x1) (harg3.unread x2) f4 f5 f7 n).2.1 (32 * n)
      ∧ Fill (C := 128) (e := .i32) (fieldB x0 x1 x2) (pb_k0_t1 (F := Ideal) 𝒱 c bd i arg1 harg1 arg2 harg2 arg3 harg3 arg4 harg4 arg5 harg5 arg6 harg6 arg7 harg7
        (harg1.unread x0) (harg2.unread x1) (harg3.unread x2) f4 f5 f7 n).2.2 (32 * n)
  | 0, _ => ⟨fill_nil _, fill_nil _, fill_nil _⟩
  | n + 1, h => by
    obtain ⟨h4, h5, h7⟩ := loop_fill 𝒱 c bd i f4 f5 f7 n (by omega)
    rw [pb_k0_t1_succ 𝒱 c bd i arg1 harg1 arg2 harg2 arg3 harg3 arg4 harg4 arg5 harg5 arg6 harg6 arg7 harg7
        (harg1.unread x0) (harg2.unread x1) (harg3.unread x2) f4 f5 f7 ⟨n, h⟩]
    have e := nr_list arg1 harg1 arg2 harg2 arg3 harg3 arg4 harg4 arg5 harg5 arg6 harg6 arg7 harg7 x0 x1 x2 𝒱 c bd i ⟨n, h⟩
    refine ⟨fill_append h4 ?_ ?_, fill_append h5 ?_ ?_, fill_append h7 ?_ ?_⟩
    · dsimp only [tripL_k0_t1]
      rw [e]
      exact nr_pieces arg1 harg1 arg2 harg2 x0 x1 ⟨n, h⟩
    · dsimp only [tripL_k0_t1]
      rw [e]
      exact nr_cover arg1 harg1 arg2 harg2 x0 x1 ⟨n, h⟩
    · exact code_pieces arg1 harg1 arg2 harg2 arg3 harg3 arg4 harg4 arg5 harg5 arg6 harg6 arg7 harg7 x0 x1 x2 𝒱 c bd i ⟨n, h⟩ _ _ _
    · exact code_cover arg1 harg1 arg2 harg2 arg3 harg3 arg4 harg4 arg5 harg5 arg6 harg6 arg7 harg7 x0 x1 x2 𝒱 c bd i ⟨n, h⟩ _ _ _
    · exact field_pieces arg1 harg1 arg2 harg2 arg3 harg3 arg4 harg4 arg5 harg5 arg6 harg6 arg7 harg7 x0 x1 x2 𝒱 c bd i ⟨n, h⟩ _ _ _
    · exact field_cover arg1 harg1 arg2 harg2 arg3 harg3 arg4 harg4 arg5 harg5 arg6 harg6 arg7 harg7 x0 x1 x2 𝒱 c bd i ⟨n, h⟩ _ _ _

end Cert.KernelIdeal.Hand

end
-- ==== Proof.Scales.lean ====
/- The block of scales the kernel computes from the full table of fields. -/
module

public import proofs.«01_k».proof.Proof.Loop

@[expose] public section

noncomputable section

namespace Cert.KernelIdeal.Hand

open Idealize.ShloMosaic Idealize.ShloMosaic.ValueIdx Idealize.ShloMosaic.Pipeline Cert.KernelIdeal Cert.KernelIdeal.Gen
open Cert

/-- The block of scales, group by group. -/
def scaleB (x0 x1 : FVec Ideal S256x3584 .bf16) (x2 : FVec Ideal S1x3584 .bf16) : FVec Ideal S1x28x256 .f32 :=
  fun z => Row.scale (rowOf x0 x1 (z 2)) (gainOf x2) (z 1)

/-- The words of the scales, from the words of the table. -/
def scaleWords (t : IVec S28x256 32) : IVec S28x256 32 :=
  select (cmpi .eq t (broadcast S28x256 0#32)) (broadcast S28x256 1065353216#32) (addi t (broadcast S28x256 8388608#32))

/-- A scale's word at an index. -/
theorem scaleWords_apply (t : IVec S28x256 32) (z : S28x256.Idx) (e : BitVec 32) (h : t z = e) :
    bitcastToFloat (F := Ideal) .f32 (scaleWords t) z = Ideal.ieee 8 23 (Row.scaleWord e) := by
  subst h
  rfl

/-- The first 28 lanes of the table, turned so that a group's fields lie along a row. -/
theorem table_apply (x0 x1 : FVec Ideal S256x3584 .bf16) (x2 : FVec Ideal S1x3584 .bf16) (j : Fin 28) (r : Fin 256) :
    extractStridedSlice S28x256 ![0, 0] (transpose S128x256 [1, 0] (fieldB x0 x1 x2) transposes_S256x128_p1_0_S128x256)
        slices_S128x256_o0_0_S28x256 (ix2 j r)
      = Row.fieldAt (rowOf x0 x1 r) (gainOf x2) j := by
  refine (extractStridedSlice_apply _ _ _ (ix2 j r) (ix2 (⟨j.val, by omega⟩ : Fin 128) r) ?_).trans ?_
  · intro a
    match a with
    | ⟨0, _⟩ => show j.val = 0 + j.val; omega
    | ⟨1, _⟩ => show r.val = 0 + r.val; omega
  · refine (transpose_ix2_apply _ _ _ _).trans ?_
    show lanes _ _ 28 _ = _
    unfold lanes
    exact dif_pos ⟨j.isLt, j.isLt⟩

/-- What the kernel stores of the table of fields is the block of scales. -/
theorem scale_block (x0 x1 : FVec Ideal S256x3584 .bf16) (x2 : FVec Ideal S1x3584 .bf16) :
    k0_pay3 (F := Ideal) (fieldB x0 x1 x2) = scaleB x0 x1 x2 := by
  funext z
  have hz : z = ix3 0 (z 1) (z 2) := by
    refine (eq_ix3 z).trans ?_
    congr 1
    exact Subsingleton.elim (α := Fin 1) _ _
  rw [hz]
  unfold k0_pay3
  refine (shapeCast_ab_1ab_apply _ _ 0 (z 1) (z 2)).trans ?_
  exact scaleWords_apply _ _ _ (table_apply x0 x1 x2 (z 1) (z 2))

end Cert.KernelIdeal.Hand

end
-- ==== Proof.Body.lean ====
/- The kernel's body on one block: from the two operand blocks and the gains it leaves the block of the sum, the block of
   codes and the block of scales. -/
module

public import proofs.«01_k».proof.Proof.Scales
public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- Reading a whole buffer through a load of all of it. -/
theorem load_all (a : Memref sig .tc .vmem S256x128 .i32) (inb : ∀ x, (![0, 0] : Fin 2 → ℕ) x + S256x128.size x ≤ S256x128.size x)
    (f : BufTy.Contents (Elt Ideal) a.view.ty) :
    View.readAt (Elt Ideal) a.view (Rect.unit (s := S256x128) ![0, 0] S256x128.size inb).toLoadRect f = a.view.read (Elt Ideal) f := by
  funext z
  refine congrArg (a.view.read (Elt Ideal) f) ?_
  funext x
  match x with
  | ⟨0, _⟩ => exact Fin.ext (by show 0 + 1 * (z 0).val = (z 0).val; omega)
  | ⟨1, _⟩ => exact Fin.ext (by show 0 + 1 * (z 1).val = (z 1).val; omega)

/-- A buffer whose one store is of all of it holds what was stored. -/
theorem store_all (a : Memref sig .tc .vmem S1x28x256 .f32) (inb : ∀ x, (![0, 0, 0] : Fin 3 → ℕ) x + S1x28x256.size x ≤ S1x28x256.size x)
    (f : BufTy.Contents (Elt Ideal) a.view.ty) {w G : FVec Ideal S1x28x256 .f32} (h : w = G) :
    a.view.read (Elt Ideal) (a.view.writes (Elt Ideal) f [⟨Rect.unit (s := S1x28x256) ![0, 0, 0] S1x28x256.size inb, w⟩]) = G := by
  subst h
  funext z
  have hz : (Rect.unit (s := S1x28x256) ![0, 0, 0] S1x28x256.size inb).emb z = z := by
    funext x
    apply Fin.ext
    show (![0, 0, 0] : Fin 3 → ℕ) x + 1 * (z x).val = (z x).val
    have h0 : (![0, 0, 0] : Fin 3 → ℕ) x = 0 := by revert x; decide
    omega
  exact (congrArg _ hz.symm).trans (View.read_writes_cons_emb a.view f (Rect.unit (s := S1x28x256) ![0, 0, 0] S1x28x256.size inb) w [] z)

set_option maxHeartbeats 1000000 in
/-- The body runs from the operand blocks to the three result blocks, and leaves the operands as they were. -/
theorem body_run (c : Dev nD) (i : grid0.Coords) (arg1 : Memref sig .tc .vmem S256x3584 .bf16) (harg1 : arg1.IsWhole) (arg2 : Memref sig .tc .vmem S256x3584 .bf16) (harg2 : arg2.IsWhole) (arg3 : Memref sig .tc .vmem S1x3584 .bf16) (harg3 : arg3.IsWhole) (arg4 : Memref sig .tc .vmem S256x3584 .bf16) (harg4 : arg4.IsWhole) (arg5 : Memref sig .tc .vmem S256x3584 .fp8e4m3) (harg5 : arg5.IsWhole) (arg6 : Memref sig .tc .vmem S1x28x256 .f32) (harg6 : arg6.IsWhole) (arg7 : Memref sig .tc .vmem S256x128 .i32) (harg7 : arg7.IsWhole)

    (x0 : FVec Ideal S256x3584 .bf16) (x1 : FVec Ideal S256x3584 .bf16) (x2 : FVec Ideal S1x3584 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare (nrB x0 x1) ∗ owns (c : Thread nD τ) arg5 fullShare (codeB x0 x1 x2) ∗ owns (c : Thread nD τ) arg6 fullShare (scaleB x0 x1 x2) ∗ (∃ d, owns (c : Thread nD τ) arg7 fullShare d)) -∗ K ⟨⟩))
          ⊢ wp frame (wpE (defs₀ (F := Ideal)) Variants.none c none) E (cc0__body i arg1 harg1 arg2 harg2 arg3 harg3 arg4 harg4 arg5 harg5 arg6 harg6 arg7 harg7) K := by
    intro E K
    simp only [cc0__body_eq_skeleton]; unfold cc0__body_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2
    obtain ⟨F4, F5, F7⟩ := loop_fill arg1 harg1 arg2 harg2 arg3 harg3 arg4 harg4 arg5 harg5 arg6 harg6 arg7 harg7 x0 x1 x2 Variants.none c none i f3 f4 fs0 8 le_rfl
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      exact fill_read F4 arg4 f3
    isplitl [H4]
    · iexists _; isplitr; swap; · iexact H4
      ipureintro
      exact fill_read F5 arg5 f4
    isplitl [H5]
    · iexists _; isplitr; swap; · iexact H5
      ipureintro
      exact store_all arg6 _ f5 ((congrArg (k0_pay3 (F := Ideal)) ((load_all arg7 _ _).trans (fill_read F7 arg7 fs0))).trans (scale_block x0 x1 x2))
    iexists _, _; isplitr; swap; · iexact HS0
    ipureintro; rfl

end Cert.KernelIdeal.Hand

end
-- ==== Proof.Run.lean ====
/- The kernel's run over its 224 blocks: each block's results are the body's, so at the end the three result arrays hold
   the sum, the codes and the scales of every row. -/
module

public import proofs.«01_k».proof.Proof.Body
public import Idealize.ShloMosaic.Lib.Claim

@[expose] public section

set_option maxRecDepth 16384

noncomputable section

namespace Cert.KernelIdeal.Hand

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The staging memrefs at point `t`. -/
abbrev ms0_0 (t : Fin cfg0.N) : Memref sig .tc .vmem S256x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x3584 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3584 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x3584 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x3584 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x28x256 .f32 := win0_5.stage (cfg0.slots t 5)
abbrev hs0_5 (t : Fin cfg0.N) : (ms0_5 t).IsWhole := hstage0_5 ((cfg0.slots t 5).cast nbuf0_5)
/-- The scratch table of fields, whole. -/
abbrev scM0_0 : Memref sig .tc .vmem S256x128 .i32 := Memref.whole cc0_scratch0

/-- The region's invariant: the scratch table at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The pipeline's data on core `c`: an operand's buffer holds its block before and after the body, and the body leaves in
    the results' buffers the block of the sum, of the codes and of the scales. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => nrB (iblk m c 0 t) (iblk m c 1 t)
    | ⟨4, _⟩ => codeB (iblk m c 0 t) (iblk m c 1 t) (iblk m c 2 t)
    | ⟨5, _⟩ => scaleB (iblk m c 0 t) (iblk m c 1 t) (iblk m c 2 t)
  Φ _ := Pipeline.ΦA spec0 c
  q _ := fullShare
  owed _ := 0

/-- The arrays as the loop finds them. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
/-- A body leaves the second operand's block as it was. -/
theorem after0_1 (c : Dev nD) (t : Fin cfg0.N) : (dats m 0 c).after 1 t = iblk m c 1 t := by dsimp only [dats]
/-- A body leaves the gains as they were. -/
theorem after0_2 (c : Dev nD) (t : Fin cfg0.N) : (dats m 0 c).after 2 t = iblk m c 2 t := by dsimp only [dats]
/-- A body leaves the block of the sum. -/
theorem after0_3 (c : Dev nD) (t : Fin cfg0.N) : (dats m 0 c).after 3 t = nrB (iblk m c 0 t) (iblk m c 1 t) := by dsimp only [dats]
/-- A body leaves the block of the codes. -/
theorem after0_4 (c : Dev nD) (t : Fin cfg0.N) : (dats m 0 c).after 4 t = codeB (iblk m c 0 t) (iblk m c 1 t) (iblk m c 2 t) := by dsimp only [dats]
/-- A body leaves the block of the scales. -/
theorem after0_5 (c : Dev nD) (t : Fin cfg0.N) : (dats m 0 c).after 5 t = scaleB (iblk m c 0 t) (iblk m c 1 t) (iblk m c 2 t) := by dsimp only [dats]

/-- Each operand's buffer holds its block at every point. -/
theorem before0_0 (c : Dev nD) (t : Fin cfg0.N) (d) : (dats m 0 c).before 0 t d = iblk m c 0 t :=
  before0_0_of m (dats m 0 c) (A_eq m c 0) (after0_0 m c) t d
/-- A body finds the second operand's block. -/
theorem before0_1 (c : Dev nD) (t : Fin cfg0.N) (d) : (dats m 0 c).before 1 t d = iblk m c 1 t :=
  before0_1_of m (dats m 0 c) (A_eq m c 1) (after0_1 m c) t d
/-- A body finds the gains. -/
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩⟩
  iapply ((body_run c (grid0.coords t) _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  iintro ⟨H0, H1, H2, H3, H4, H5, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The pipeline's body obligation, at every point: the body's triple restated. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The program runs; at the end each array holds what the pipeline's data say, the buffers it does not stage what the
    lines after it leave, and every semaphore counter is zero. -/
theorem run_main : θ_run defs (onTc (τ := τ) (main (F := Ideal))) (s₀ m ρ) (fun r =>
    (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program ends with its arguments unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.Arrays.lean ====
/- What the three result arrays hold after the kernel's run, row by row. -/
module

public import proofs.«01_k».proof.Proof.Run
public import Idealize.ShloMosaic.Lib.Pipeline.ValueKit

@[expose] public section

set_option maxRecDepth 16384

noncomputable section

namespace Cert.KernelIdeal.Hand

open Idealize.ShloMosaic Idealize.ShloMosaic.TcCoe Cert.KernelIdeal Cert.KernelIdeal.Gen
open Idealize.ShloMosaic.Pipeline (Dat Cfg Window)
open Cert

variable (m : (ℓ : Loc nD τ sig) → Buf (Elt Ideal) ℓ) (c : Dev nD)

/-- Row `r` of the sum of the two operand arrays. -/
def rowA (r : Fin 57344) (k : Fin 3584) : EReal :=
  HAdd.hAdd (α := EReal) (β := EReal) (V m c main_v0 (ix2 r k)) (V m c main_v1 (ix2 r k))

/-- The gains. -/
def gainA (k : Fin 3584) : EReal := V m c main_v2 (ix2 0 k)

/-- Row `256 t + r`. -/
def blockRow (t : Fin cfg0.N) (r : Fin 256) : Fin 57344 := ⟨256 * t.val + r.val, by have h : t.val < 224 := t.isLt; omega⟩

/-- Row `2048 a + b`. -/
def tokenRow (a : Fin 28) (b : Fin 2048) : Fin 57344 := ⟨2048 * a.val + b.val, by omega⟩

/-- Block `t` of the first operand is at rows `256 t`. -/
theorem index0 : ∀ t : Fin cfg0.N, win0_0.index t 0 = t.val ∧ win0_0.index t 1 = 0 := by decide +kernel
/-- Block `t` of the second operand is at rows `256 t`. -/
theorem index1 : ∀ t : Fin cfg0.N, win0_1.index t 0 = t.val ∧ win0_1.index t 1 = 0 := by decide +kernel
/-- Every grid point reads the one block of gains. -/
theorem index2 : ∀ t : Fin cfg0.N, win0_2.index t 0 = 0 ∧ win0_2.index t 1 = 0 := by decide +kernel
/-- Block `t` of the sum is at rows `256 t`. -/
theorem index3 : ∀ t : Fin cfg0.N, win0_3.index t 0 = t.val ∧ win0_3.index t 1 = 0 := by decide +kernel
/-- Block `t` of the codes is at rows `256 t`. -/
theorem index4 : ∀ t : Fin cfg0.N, win0_4.index t 0 = t.val ∧ win0_4.index t 1 = 0 := by decide +kernel
/-- Block `t` of the scales is at batch `t / 8` and tokens `256 (t mod 8)`. -/
theorem index5 : ∀ t : Fin cfg0.N, win0_5.index t 0 = t.val / 8 ∧ win0_5.index t 1 = 0 ∧ win0_5.index t 2 = t.val % 8 := by decide +kernel

/-- An index of a block of the first operand, in the array. -/
theorem emb0 (t : Fin cfg0.N) (r : Fin 256) (k : Fin 3584) : (win0_0.blk t).view.emb (ix2 r k) = ix2 (blockRow t r) k := by
  funext a
  match a with
  | ⟨0, _⟩ => exact Fin.ext (by blk_simp [(index0 t).1]; show _ = 256 * t.val + r.val; omega)
  | ⟨1, _⟩ => exact Fin.ext (by blk_simp [(index0 t).2])

/-- An index of a block of the second operand, in the array. -/
theorem emb1 (t : Fin cfg0.N) (r : Fin 256) (k : Fin 3584) : (win0_1.blk t).view.emb (ix2 r k) = ix2 (blockRow t r) k := by
  funext a
  match a with
  | ⟨0, _⟩ => exact Fin.ext (by blk_simp [(index1 t).1]; show _ = 256 * t.val + r.val; omega)
  | ⟨1, _⟩ => exact Fin.ext (by blk_simp [(index1 t).2])

/-- An index of the block of gains, in the array. -/
theorem emb2 (t : Fin cfg0.N) (k : Fin 3584) : (win0_2.blk t).view.emb (ix2 0 k) = ix2 0 k := by
  funext a
  match a with
  | ⟨0, _⟩ => exact Fin.ext (by blk_simp [(index2 t).1])
  | ⟨1, _⟩ => exact Fin.ext (by blk_simp [(index2 t).2])

/-- An index of a block of the sum, in the array. -/
theorem emb3 (t : Fin cfg0.N) (r : Fin 256) (k : Fin 3584) : (win0_3.blk t).view.emb (ix2 r k) = ix2 (blockRow t r) k := by
  funext a
  match a with
  | ⟨0, _⟩ => exact Fin.ext (by blk_simp [(index3 t).1]; show _ = 256 * t.val + r.val; omega)
  | ⟨1, _⟩ => exact Fin.ext (by blk_simp [(index3 t).2])

/-- An index of a block of the codes, in the array. -/
theorem emb4 (t : Fin cfg0.N) (r : Fin 256) (k : Fin 3584) : (win0_4.blk t).view.emb (ix2 r k) = ix2 (blockRow t r) k := by
  funext a
  match a with
  | ⟨0, _⟩ => exact Fin.ext (by blk_simp [(index4 t).1]; show _ = 256 * t.val + r.val; omega)
  | ⟨1, _⟩ => exact Fin.ext (by blk_simp [(index4 t).2])

/-- The token block of grid point `t` within its batch of 2048. -/
def blockTok (t : Fin cfg0.N) (b : Fin 256) : Fin 2048 := ⟨256 * (t.val % 8) + b.val, by omega⟩

/-- The batch of grid point `t`. -/
def blockBatch (t : Fin cfg0.N) : Fin 28 := ⟨t.val / 8, by have h : t.val < 224 := t.isLt; omega⟩

/-- An index of a block of the scales, in the array. -/
theorem emb5 (t : Fin cfg0.N) (u : Fin 1) (j : Fin 28) (b : Fin 256) :
    (win0_5.blk t).view.emb (ix3 u j b) = ix3 (blockBatch t) j (blockTok t b) := by
  funext a
  match a with
  | ⟨0, _⟩ => exact Fin.ext (by blk_simp [(index5 t).1]; show _ = t.val / 8; omega)
  | ⟨1, _⟩ => exact Fin.ext (by blk_simp [(index5 t).2.1])
  | ⟨2, _⟩ => exact Fin.ext (by blk_simp [(index5 t).2.2]; show _ = 256 * (t.val % 8) + b.val; omega)

/-- A row of the two operand blocks is a row of the arrays. -/
theorem row_block (t : Fin cfg0.N) (r : Fin 256) : rowOf (iblk m c 0 t) (iblk m c 1 t) r = rowA m c (blockRow t r) := by
  funext k
  exact congrArg₂ (HAdd.hAdd (α := EReal) (β := EReal)) (congrArg (V m c main_v0) (emb0 t r k)) (congrArg (V m c main_v1) (emb1 t r k))

/-- The block of gains is the array of gains. -/
theorem gain_block (t : Fin cfg0.N) : gainOf (iblk m c 2 t) = gainA m c := by
  funext k
  exact congrArg (V m c main_v2) (emb2 t k)

/-- A token of a block, counted within its batch or over the whole array. -/
theorem tokenRow_block (t : Fin cfg0.N) (b : Fin 256) : tokenRow (blockBatch t) (blockTok t b) = blockRow t b :=
  Fin.ext (by show 2048 * (t.val / 8) + (256 * (t.val % 8) + b.val) = 256 * t.val + b.val; omega)

/-- The array of the sum. -/
def sumA : S57344x3584.Idx → EReal := fun z => rowA m c (z 0) (z 1)

/-- The array of the codes. -/
def codeA : S57344x3584.Idx → EReal := fun z => Row.code (rowA m c (z 0)) (gainA m c) (z 1)

/-- The array of the scales. -/
def scaleA : S28x28x2048.Idx → EReal := fun z => Row.scale (rowA m c (tokenRow (z 0) (z 2))) (gainA m c) (z 1)

/-- The first result array holds the sum. -/
theorem final_sum : (dats m 0 c).arrAt 3 cfg0.N = sumA m c := by
  refine (dats m 0 c).arrAt_eq_of_covers 3 _ (by decide +kernel) fun t hf y => ?_
  blk_simp
  rw [after0_3]
  obtain ⟨r, k, rfl⟩ : ∃ (r : Fin 256) (k : Fin 3584), y = ix2 r k := ⟨y 0, y 1, eq_ix2 y⟩
  exact (congrFun (row_block m c t r) k).trans (congrArg (sumA m c) (emb3 t r k)).symm

/-- The second result array holds the codes. -/
theorem final_code : (dats m 0 c).arrAt 4 cfg0.N = codeA m c := by
  refine (dats m 0 c).arrAt_eq_of_covers 4 _ (by decide +kernel) fun t hf y => ?_
  blk_simp
  rw [after0_4]
  obtain ⟨r, k, rfl⟩ : ∃ (r : Fin 256) (k : Fin 3584), y = ix2 r k := ⟨y 0, y 1, eq_ix2 y⟩
  exact (congrArg₂ (fun f g => Row.code f g k) (row_block m c t r) (gain_block m c t)).trans (congrArg (codeA m c) (emb4 t r k)).symm

/-- The third result array holds the scales. -/
theorem final_scale : (dats m 0 c).arrAt 5 cfg0.N = scaleA m c := by
  refine (dats m 0 c).arrAt_eq_of_covers 5 _ (by decide +kernel) fun t hf y => ?_
  blk_simp
  rw [after0_5]
  obtain ⟨u, j, b, rfl⟩ : ∃ (u : Fin 1) (j : Fin 28) (b : Fin 256), y = ix3 u j b := ⟨y 0, y 1, y 2, eq_ix3 y⟩
  refine (congrArg₂ (fun f g => Row.scale f g j) ((row_block m c t b).trans (congrArg (rowA m c) (tokenRow_block t b).symm))
    (gain_block m c t)).trans (congrArg (scaleA m c) (emb5 t u j b)).symm

end Cert.KernelIdeal.Hand

end
-- ==== Proof.Tokens.lean ====
/- The rows of the arguments: one row of 3584 channels per token. -/
module

public import proofs.«01_k».proof.Proof.Row
public import Idealize.ShloMosaic.Lib.Pointwise.Index

@[expose] public section

noncomputable section

namespace Cert.Row

open Idealize.ShloMosaic

/-- Row `(b, s)` of the sum of two arrays of tokens. -/
def rowM (a0 a1 : (⟨3, ![28, 2048, 3584]⟩ : Shape).Idx → EReal) (b : Fin 28) (s : Fin 2048) (k : Fin 3584) : EReal :=
  a0 (ix3 b s k) + a1 (ix3 b s k)

/-- The gains by channel. -/
def gainM (a2 : (⟨1, ![3584]⟩ : Shape).Idx → EReal) (k : Fin 3584) : EReal := a2 (ix1 k)

end Cert.Row

end
-- ==== Proof.Results.lean ====
/- What the kernel's three results hold at an index, as functions of its arguments. -/
module

public import proofs.«01_k».proof.Proof.Arrays
public import proofs.«01_k».proof.Proof.Tokens
public import Idealize.ShloMosaic.Lib.ValueLayout

@[expose] public section

set_option maxRecDepth 16384

noncomputable section

namespace Cert.KernelIdeal.Hand

open Idealize.ShloMosaic Idealize.ShloMosaic.TcCoe Cert.KernelIdeal Cert.KernelIdeal.Gen
open Idealize.ShloMosaic.Pipeline (Dat Cfg Window)
open Idealize.ShloMosaic.ValueIdx (shapeCast_a_1a_apply transpose_ix3_021_apply)
open Cert Cert.Row

variable (m : (ℓ : Loc nD τ sig) → Buf (Elt Ideal) ℓ) (c : Dev nD)

/-- The arrays the kernel's loop reads are the arguments, reshaped. -/
theorem V_v0 : V m c main_v0 = shapeCast S57344x3584 (m ((c : Thread nD τ).loc main_arg0)) Facts₀.shapeCasts_S28x2048x3584_S57344x3584 := by
  simp only [V, V0, List.flatten_cons, List.flatten_nil, List.append_nil]
  after_results
  rfl

/-- The second operand, reshaped. -/
theorem V_v1 : V m c main_v1 = shapeCast S57344x3584 (m ((c : Thread nD τ).loc main_arg1)) Facts₀.shapeCasts_S28x2048x3584_S57344x3584 := by
  simp only [V, V0, List.flatten_cons, List.flatten_nil, List.append_nil]
  after_results
  rfl

/-- The gains, reshaped. -/
theorem V_v2 : V m c main_v2 = shapeCast S1x3584 (m ((c : Thread nD τ).loc main_arg2)) Facts₀.shapeCasts_S3584_S1x3584 := by
  simp only [V, V0, List.flatten_cons, List.flatten_nil, List.append_nil]
  after_results
  rfl

/-- The sum, as a function of the first two arguments. -/
def sumM (a0 a1 : S28x2048x3584.Idx → EReal) : S28x2048x3584.Idx → EReal := fun z => rowM a0 a1 (z 0) (z 1) (z 2)
/-- The codes, as a function of the three arguments. -/
def codeM (a0 a1 : S28x2048x3584.Idx → EReal) (a2 : S3584.Idx → EReal) : S28x2048x3584.Idx → EReal :=
  fun z => Row.code (rowM a0 a1 (z 0) (z 1)) (gainM a2) (z 2)
/-- The scales, as a function of the three arguments. -/
def scaleM (a0 a1 : S28x2048x3584.Idx → EReal) (a2 : S3584.Idx → EReal) : S28x2048x28.Idx → EReal :=
  fun z => Row.scale (rowM a0 a1 (z 0) (z 1)) (gainM a2) (z 2)

/-- Tokens laid out as rows. -/
theorem castTok (x : S28x2048x3584.Idx → EReal) (b : Fin 28) (s : Fin 2048) (k : Fin 3584) :
    shapeCast S57344x3584 x Facts₀.shapeCasts_S28x2048x3584_S57344x3584 (ix2 (tokenRow b s) k) = x (ix3 b s k) :=
  shapeCast_apply x _ _ _ (by
    rw [Shape.rowMajor_val_three, Shape.rowMajor_val_two]
    show (b.val * 2048 + s.val) * 3584 + k.val = (2048 * b.val + s.val) * 3584 + k.val
    omega)

/-- Rows laid out as tokens. -/
theorem castRow (x : S57344x3584.Idx → EReal) (b : Fin 28) (s : Fin 2048) (k : Fin 3584) :
    shapeCast S28x2048x3584 x Facts₀.shapeCasts_S57344x3584_S28x2048x3584 (ix3 b s k) = x (ix2 (tokenRow b s) k) :=
  shapeCast_apply x _ _ _ (by
    rw [Shape.rowMajor_val_three, Shape.rowMajor_val_two]
    show (2048 * b.val + s.val) * 3584 + k.val = (b.val * 2048 + s.val) * 3584 + k.val
    omega)

/-- A row of the arrays is a token of the arguments. -/
theorem rowA_tok (b : Fin 28) (s : Fin 2048) :
    rowA m c (tokenRow b s) = rowM (m ((c : Thread nD τ).loc main_arg0)) (m ((c : Thread nD τ).loc main_arg1)) b s := by
  funext k
  exact congrArg₂ (HAdd.hAdd (α := EReal) (β := EReal)) ((congrFun (V_v0 m c) _).trans (castTok _ b s k))
    ((congrFun (V_v1 m c) _).trans (castTok _ b s k))

/-- The gains of the arrays are those of the arguments. -/
theorem gainA_arg : gainA m c = gainM (m ((c : Thread nD τ).loc main_arg2)) := by
  funext k
  exact (congrFun (V_v2 m c) _).trans (shapeCast_a_1a_apply _ _ 0 k)

/-- The arrays of the loop are distinct. -/
theorem arr_inj : Function.Injective (Pipeline.arrRef spec0) := by decide

/-- The first result is the sum. -/
theorem tail4 : Pipeline.afterTail₀ cfgs (dats m) 0 (V0 m) [hostOps1] c main_v4
    = sumM (m ((c : Thread nD τ).loc main_arg0)) (m ((c : Thread nD τ).loc main_arg1)) := by
  unfold Pipeline.afterTail₀
  simp only [List.flatten_cons, List.flatten_nil, List.append_nil]
  after_results
  have e := (Pipeline.withArrays_arr (cfgs 0).spec arr_inj c (V0 m c) (fun w => (dats m 0 c).arrAt w (cfgs 0).N) 3).trans (final_sum m c)
  refine (congrArg (fun A => shapeCast S28x2048x3584 A Facts₀.shapeCasts_S57344x3584_S28x2048x3584) e).trans (funext fun z => ?_)
  obtain ⟨b, s, k, rfl⟩ : ∃ (b : Fin 28) (s : Fin 2048) (k : Fin 3584), z = ix3 b s k := ⟨z 0, z 1, z 2, eq_ix3 z⟩
  exact (castRow _ b s k).trans (congrFun (rowA_tok m c b s) k)

/-- The second result is the codes. -/
theorem tail5 : Pipeline.afterTail₀ cfgs (dats m) 0 (V0 m) [hostOps1] c main_v5
    = codeM (m ((c : Thread nD τ).loc main_arg0)) (m ((c : Thread nD τ).loc main_arg1)) (m ((c : Thread nD τ).loc main_arg2)) := by
  unfold Pipeline.afterTail₀
  simp only [List.flatten_cons, List.flatten_nil, List.append_nil]
  after_results
  have e := (Pipeline.withArrays_arr (cfgs 0).spec arr_inj c (V0 m c) (fun w => (dats m 0 c).arrAt w (cfgs 0).N) 4).trans (final_code m c)
  refine (congrArg (fun A => shapeCast S28x2048x3584 A Facts₀.shapeCasts_S57344x3584_S28x2048x3584) e).trans (funext fun z => ?_)
  obtain ⟨b, s, k, rfl⟩ : ∃ (b : Fin 28) (s : Fin 2048) (k : Fin 3584), z = ix3 b s k := ⟨z 0, z 1, z 2, eq_ix3 z⟩
  exact (castRow _ b s k).trans (congrArg₂ (fun f g => Row.code f g k) (rowA_tok m c b s) (gainA_arg m c))

/-- The third result is the scales. -/
theorem tail6 : Pipeline.afterTail₀ cfgs (dats m) 0 (V0 m) [hostOps1] c main_v6
    = scaleM (m ((c : Thread nD τ).loc main_arg0)) (m ((c : Thread nD τ).loc main_arg1)) (m ((c : Thread nD τ).loc main_arg2)) := by
  unfold Pipeline.afterTail₀
  simp only [List.flatten_cons, List.flatten_nil, List.append_nil]
  after_results
  have e := (Pipeline.withArrays_arr (cfgs 0).spec arr_inj c (V0 m c) (fun w => (dats m 0 c).arrAt w (cfgs 0).N) 5).trans (final_scale m c)
  refine (congrArg (fun A => transpose S28x2048x28 [0, 2, 1] A Facts₀.transposes_S28x28x2048_S28x2048x28_0_2_1) e).trans (funext fun z => ?_)
  obtain ⟨b, s, j, rfl⟩ : ∃ (b : Fin 28) (s : Fin 2048) (j : Fin 28), z = ix3 b s j := ⟨z 0, z 1, z 2, eq_ix3 z⟩
  exact (transpose_ix3_021_apply _ _ b s j).trans (congrArg₂ (fun f g => Row.scale f g j) (rowA_tok m c b s) (gainA_arg m c))

/-- A run of the kernel: the three results at their functions of the arguments, and the arguments unchanged. -/
theorem run (ρ : Dev nD → PrngReg) : θ_run defs (onTc (τ := τ) (main (F := Ideal))) ⟨m, fun _ => 0, ρ⟩ (fun r => ∀ c : Dev nD,
      r.2.mem ((c : Thread nD τ).loc main_v4) = sumM (m ((c : Thread nD τ).loc main_arg0)) (m ((c : Thread nD τ).loc main_arg1))
      ∧ r.2.mem ((c : Thread nD τ).loc main_v5)
        = codeM (m ((c : Thread nD τ).loc main_arg0)) (m ((c : Thread nD τ).loc main_arg1)) (m ((c : Thread nD τ).loc main_arg2))
      ∧ r.2.mem ((c : Thread nD τ).loc main_v6)
        = scaleM (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c =>
      ⟨((h.1.1 c).2 main_v4 (Pipeline.mem_restRefs_of main_v4 (by decide) (by decide))).trans (tail4 m c),
        ((h.1.1 c).2 main_v5 (Pipeline.mem_restRefs_of main_v5 (by decide) (by decide))).trans (tail5 m c),
        ((h.1.1 c).2 main_v6 (Pipeline.mem_restRefs_of main_v6 (by decide) (by decide))).trans (tail6 m c), h.2.1 c⟩)
    (θ_run_and (run_main m ρ) ((θ_run defs _ _).mono (fun _ h => h) (frame m ρ)))

end Cert.KernelIdeal.Hand

end
-- ==== Proof.RefTerms.lean ====
/- The reference's results named stage by stage, as arrays. -/
module

public import proofs.«01_k».proof.Proof.Power
public import proofs.«01_k».proof.Proof.Tokens
public import proofs.«01_k».proof.Proof.Gen.ReferenceIdeal.Run
public import Idealize.ShloMosaic.Lib.Pipeline.ValueKit
public import Idealize.ShloMosaic.Lib.ValueLayout

@[expose] public section

set_option maxRecDepth 16384

noncomputable section

namespace Cert.ReferenceIdeal.Hand

open Idealize.ShloMosaic Idealize.ShloMosaic.TcCoe Cert.ReferenceIdeal Cert.ReferenceIdeal.Gen
open Cert Cert.Row

variable (a0 a1 : FVec Ideal S28x2048x3584 .bf16) (a2 : FVec Ideal S3584 .bf16)

/-- The sum, at the narrow format. -/
def sumT : FVec Ideal S28x2048x3584 .bf16 :=
  truncf .bf16 (addf (extf .f32 a0 Facts₀.bitsLt_bf16_f32) (extf .f32 a1 Facts₀.bitsLt_bf16_f32)) Facts₀.bitsLt_bf16_f32
/-- The sum, at the wide format. -/
def wideT : FVec Ideal S28x2048x3584 .f32 := extf .f32 (sumT a0 a1) Facts₀.bitsLt_bf16_f32

/-- The reciprocal root mean squares. -/
def rsT : FVec Ideal S28x2048x1 .f32 :=
  Host.rsqrt (addf (Host.divf (broadcastInDim S28x2048x1 ![0, 1] Facts₀.bcast_S28x2048_S28x2048x1_0_1
      (Host.reduceAdd (mulf (wideT a0 a1) (wideT a0 a1)) (constant S_ .f32 0x00000000#32) Facts₀.reducesTo_S28x2048x3584_S28x2048_d2 Facts₀.h_S_))
    (broadcastInDim S28x2048x1 ![] Facts₀.bcast_S_S28x2048x1 (constant S_ .f32 0x45600000#32)))
    (broadcastInDim S28x2048x1 ![] Facts₀.bcast_S_S28x2048x1 (constant S_ .f32 0x358637BD#32)))

/-- The normed rows times the gains. -/
def yT : FVec Ideal S28x2048x3584 .f32 :=
  mulf (mulf (wideT a0 a1) (broadcastInDim S28x2048x3584 ![0, 1, 2] Facts₀.bcast_S28x2048x1_S28x2048x3584_0_1_2 (rsT a0 a1)))
    (broadcastInDim S28x2048x3584 ![0, 1, 2] Facts₀.bcast_S1x1x3584_S28x2048x3584_0_1_2
      (broadcastInDim S1x1x3584 ![2] Facts₀.bcast_S3584_S1x1x3584_2 (extf .f32 a2 Facts₀.bitsLt_bf16_f32)))

/-- The same by groups of 128 channels. -/
def groupT : FVec Ideal S28x2048x28x128 .f32 := shapeCast S28x2048x28x128 (yT a0 a1 a2) Facts₀.shapeCasts_S28x2048x3584_S28x2048x28x128

/-- The greatest absolute value of each group, times 1/448. -/
def amaxT : FVec Ideal S28x2048x28 .f32 :=
  mulf (Host.reduce FloatOps.maximumf (Host.absf (groupT a0 a1 a2)) (constant S_ .f32 0xFF800000#32)
      Facts₀.reducesTo_S28x2048x28x128_S28x2048x28_d3 Facts₀.h_S_)
    (broadcastInDim S28x2048x28 ![] Facts₀.bcast_S_S28x2048x28 (constant S_ .f32 0x3B124925#32))

/-- The number two, at every group. -/
def twoT : FVec Ideal S28x2048x28 .f32 := broadcastInDim S28x2048x28 ![] Facts₀.bcast_S_S28x2048x28 (constant S_ .f32 0x40000000#32)

/-- The exponents of the scales, of the groups' greatest values `v`. -/
def expoT (v : FVec Ideal S28x2048x28 .f32) : FVec Ideal S28x2048x28 .f32 :=
  select (cmpf .olt v (broadcastInDim S28x2048x28 ![] Facts₀.bcast_S_S28x2048x28 (constant S_ .f32 0x00800000#32)))
    (broadcastInDim S28x2048x28 ![] Facts₀.bcast_S_S28x2048x28 (id (constant S_ .f32 0x00000000#32)))
    (addf (Host.floor (Host.divf (Host.log v) (Host.log twoT)))
      (broadcastInDim S28x2048x28 ![] Facts₀.bcast_S_S28x2048x28 (constant S_ .f32 0x3F800000#32)))

/-- The scales. -/
def scaleT : FVec Ideal S28x2048x28 .f32 := Host.powf twoT (expoT (amaxT a0 a1 a2))

/-- The limited codes, by groups, of the grouped values `u` and the factors `q`. -/
def clipT (u : FVec Ideal S28x2048x28x128 .f32) (q : FVec Ideal S28x2048x28 .f32) : FVec Ideal S28x2048x28x128 .f32 :=
  minimumf (broadcastInDim S28x2048x28x128 ![] Facts₀.bcast_S_S28x2048x28x128 (id (constant S_ .f32 0x43E00000#32)))
    (maximumf (broadcastInDim S28x2048x28x128 ![] Facts₀.bcast_S_S28x2048x28x128 (id (constant S_ .f32 0xC3E00000#32)))
      (mulf u (broadcastInDim S28x2048x28x128 ![0, 1, 2, 3] Facts₀.bcast_S28x2048x28x1_S28x2048x28x128_0_1_2_3
        (broadcastInDim S28x2048x28x1 ![0, 1, 2] Facts₀.bcast_S28x2048x28_S28x2048x28x1_0_1_2 q))))

/-- The codes. -/
def codeT : FVec Ideal S28x2048x3584 .fp8e4m3 :=
  Host.convertf .fp8e4m3 (shapeCast S28x2048x3584 (clipT (groupT a0 a1 a2) (Host.powf twoT (Host.negf (expoT (amaxT a0 a1 a2)))))
    Facts₀.shapeCasts_S28x2048x28x128_S28x2048x3584)

/-- The reference's run states its codes as `codeT`. -/
theorem codes_eq (m : (ℓ : Loc nD τ sig) → Buf (Elt Ideal) ℓ) (c : Dev nD) : Value.res_main_v42 (F := Ideal) m c
    = codeT (m ((c : Thread nD τ).loc main_arg0)) (m ((c : Thread nD τ).loc main_arg1)) (m ((c : Thread nD τ).loc main_arg2)) := by
  unfold Value.res_main_v42 codeT clipT expoT amaxT groupT yT rsT wideT sumT twoT
  rfl

/-- A run of the reference: its three results at their functions of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = sumT (m ((c : Thread nD τ).loc main_arg0)) (m ((c : Thread nD τ).loc main_arg1))
      ∧ r.2.mem ((c : Thread nD τ).loc main_v42)
        = codeT (m ((c : Thread nD τ).loc main_arg0)) (m ((c : Thread nD τ).loc main_arg1)) (m ((c : Thread nD τ).loc main_arg2))
      ∧ r.2.mem ((c : Thread nD τ).loc main_v34)
        = scaleT (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1, (h c).2.1.trans (codes_eq m c),
    (h c).2.2.1.trans (by unfold scaleT expoT amaxT groupT yT rsT wideT sumT twoT; rfl), (h c).2.2.2⟩)
    (Value.run (F := Ideal) m ρ)

end Cert.ReferenceIdeal.Hand

end
-- ==== Proof.Ref.lean ====
/- What the reference's three results hold at an index, as functions of its arguments. -/
module

public import proofs.«01_k».proof.Proof.RefTerms

@[expose] public section

set_option maxRecDepth 16384

noncomputable section

namespace Cert.Row

open Idealize.ShloMosaic

/-- The code of channel `c`, with the factor a power of two. -/
def refCode (f g : Fin 3584 → EReal) (c : Fin 3584) : EReal :=
  clip (y f g c * two (-expo (amax fun l => y f g (col (grp c) l))))

/-- The scale of group `j`, a power of two. -/
def refScale (f g : Fin 3584 → EReal) (j : Fin 28) : EReal := two (expo (amax fun l => y f g (col j l)))

end Cert.Row

namespace Cert.ReferenceIdeal.Hand

open Idealize.ShloMosaic Idealize.ShloMosaic.TcCoe Cert.ReferenceIdeal Cert.ReferenceIdeal.Gen
open Cert Cert.Row

variable (a0 a1 : FVec Ideal S28x2048x3584 .bf16) (a2 : FVec Ideal S3584 .bf16)

/-- The sum at an index. -/
theorem wide_apply (b : Fin 28) (s : Fin 2048) (k : Fin 3584) : wideT a0 a1 (ix3 b s k) = rowM a0 a1 b s k := rfl

/-- The index of channel `k` of a token. -/
theorem lift_row (h : S28x2048x3584.Reduces [2] S28x2048) (b : Fin 28) (s : Fin 2048) (k : Fin 3584) :
    h.lift (ix2 b s) k = ix3 b s k := by
  funext a; match a with | ⟨0, _⟩ => rfl | ⟨1, _⟩ => rfl | ⟨2, _⟩ => rfl

/-- The index of channel `l` of a group. -/
theorem lift_group (h : S28x2048x28x128.Reduces [3] S28x2048x28) (b : Fin 28) (s : Fin 2048) (j : Fin 28) (l : Fin 128) :
    h.lift (ix3 b s j) l = ix4 b s j l := by
  funext a; match a with | ⟨0, _⟩ => rfl | ⟨1, _⟩ => rfl | ⟨2, _⟩ => rfl | ⟨3, _⟩ => rfl

/-- The sum over a token's channels. -/
theorem sumsq_apply (x : FVec Ideal S28x2048x3584 .f32) (b : Fin 28) (s : Fin 2048) :
    Host.reduceAdd x (constant (F := Ideal) S_ .f32 0x00000000#32) Facts₀.reducesTo_S28x2048x3584_S28x2048_d2 Facts₀.h_S_ (ix2 b s)
      = ∑ k, x (ix3 b s k) := by
  refine (Ideal.hostReduceAdd_single Facts₀.reducesTo_S28x2048x3584_S28x2048_d2 (by decide) x _ (ix2 b s)).trans ?_
  refine (congrArg₂ (HAdd.hAdd (α := EReal) (β := EReal)) Ideal.ofBits_zero_f32
    (Finset.sum_congr rfl fun k _ => congrArg x (lift_row (by decide) b s k))).trans (zero_add _)

/-- A token's reciprocal root mean square. -/
theorem rs_apply (b : Fin 28) (s : Fin 2048) : rsT a0 a1 (ix3 b s 0) = rs (rowM a0 a1 b s) := by
  have e : broadcastInDim S28x2048x1 ![0, 1] Facts₀.bcast_S28x2048_S28x2048x1_0_1
      (Host.reduceAdd (mulf (wideT a0 a1) (wideT a0 a1)) (constant (F := Ideal) S_ .f32 0x00000000#32)
        Facts₀.reducesTo_S28x2048x3584_S28x2048_d2 Facts₀.h_S_) (ix3 b s 0)
      = ∑ k, rowM a0 a1 b s k * rowM a0 a1 b s k :=
    (broadcastInDim_apply _ _ _ _ (ix2 b s) fun a => match a with | ⟨0, _⟩ => rfl | ⟨1, _⟩ => rfl).trans (sumsq_apply _ b s)
  exact congrArg (fun t => Ideal.rsqrt (Ideal.div t (Ideal.ieee 8 23 0x45600000#32) + Ideal.ieee 8 23 0x358637BD#32)) e

/-- A normed and scaled element. -/
theorem y_apply (b : Fin 28) (s : Fin 2048) (k : Fin 3584) :
    yT a0 a1 a2 (ix3 b s k) = y (rowM a0 a1 b s) (gainM a2) k := by
  have e1 : broadcastInDim S28x2048x3584 ![0, 1, 2] Facts₀.bcast_S28x2048x1_S28x2048x3584_0_1_2 (rsT a0 a1) (ix3 b s k)
      = rs (rowM a0 a1 b s) :=
    (broadcastInDim_apply _ _ _ _ (ix3 b s 0) fun a => match a with | ⟨0, _⟩ => rfl | ⟨1, _⟩ => rfl | ⟨2, _⟩ => rfl).trans
      (rs_apply a0 a1 b s)
  have e2 : broadcastInDim S28x2048x3584 ![0, 1, 2] Facts₀.bcast_S1x1x3584_S28x2048x3584_0_1_2
      (broadcastInDim S1x1x3584 ![2] Facts₀.bcast_S3584_S1x1x3584_2 (extf (F := Ideal) .f32 a2 Facts₀.bitsLt_bf16_f32)) (ix3 b s k)
      = gainM a2 k :=
    (broadcastInDim_apply _ _ _ _ (ix3 0 0 k) fun a => match a with | ⟨0, _⟩ => rfl | ⟨1, _⟩ => rfl | ⟨2, _⟩ => rfl).trans
      (broadcastInDim_apply _ _ _ _ (ix1 k) fun a => match a with | ⟨0, _⟩ => rfl)
  exact congrArg₂ (fun t u : EReal => rowM a0 a1 b s k * t * u) e1 e2

/-- A normed and scaled element, by group. -/
theorem group_apply (b : Fin 28) (s : Fin 2048) (j : Fin 28) (l : Fin 128) :
    groupT a0 a1 a2 (ix4 b s j l) = y (rowM a0 a1 b s) (gainM a2) (col j l) :=
  (shapeCast_apply _ _ _ (ix3 b s (col j l)) (by
    rw [Shape.rowMajor_val_three, Shape.rowMajor_val_four]
    show (b.val * 2048 + s.val) * 3584 + (128 * j.val + l.val) = ((b.val * 2048 + s.val) * 28 + j.val) * 128 + l.val
    omega)).trans (y_apply a0 a1 a2 b s (col j l))

/-- The greatest element of a group. -/
theorem greatest_apply (x : FVec Ideal S28x2048x28x128 .f32) (b : Fin 28) (s : Fin 2048) (j : Fin 28) :
    Host.reduce FloatOps.maximumf x (constant (F := Ideal) S_ .f32 0xFF800000#32) Facts₀.reducesTo_S28x2048x28x128_S28x2048x28_d3
        Facts₀.h_S_ (ix3 b s j)
      = (Finset.univ : Finset (Fin 128)).fold max (Ideal.ieee 8 23 0xFF800000#32) (fun l => x (ix4 b s j l)) := by
  refine (Host.reduce_eq_fold_single (α := EReal) max x _ Facts₀.reducesTo_S28x2048x28x128_S28x2048x28_d3 (by decide) Facts₀.h_S_
    (ix3 b s j)).trans ?_
  refine congrArg (fun u : Fin 128 → EReal => (Finset.univ : Finset (Fin 128)).fold max (Ideal.ieee 8 23 0xFF800000#32) u)
    (funext fun l => congrArg x (lift_group (by decide) b s j l))

/-- The product with 1/448 at an index. -/
theorem scaled_apply (x : FVec Ideal S28x2048x28 .f32) (z : S28x2048x28.Idx) :
    mulf x (broadcastInDim S28x2048x28 ![] Facts₀.bcast_S_S28x2048x28 (constant (F := Ideal) S_ .f32 0x3B124925#32)) z
      = HMul.hMul (α := EReal) (β := EReal) (x z) (Ideal.ieee 8 23 0x3B124925#32) := rfl

/-- The absolute value at an index. -/
theorem abs_apply (x : FVec Ideal S28x2048x28x128 .f32) (z : S28x2048x28x128.Idx) (t : EReal) (h : x z = t) :
    Host.absf x z = max t (-t) := h ▸ rfl

/-- The scaled greatest absolute value of a group. -/
theorem amax_apply (b : Fin 28) (s : Fin 2048) (j : Fin 28) :
    amaxT a0 a1 a2 (ix3 b s j) = amax (fun l => y (rowM a0 a1 b s) (gainM a2) (col j l)) := by
  unfold amaxT amax
  rw [scaled_apply, greatest_apply]
  congr 1
  exact Finset.fold_congr fun l _ => abs_apply _ _ _ (group_apply a0 a1 a2 b s j l)

/-- The exponent at an index. -/
theorem expo_apply (v : FVec Ideal S28x2048x28 .f32) (z : S28x2048x28.Idx) : expoT v z = expo (v z) := rfl

/-- Two to the power at an index. -/
theorem two_apply (e : FVec Ideal S28x2048x28 .f32) (z : S28x2048x28.Idx) : Host.powf twoT e z = two (e z) := rfl

/-- Two to the opposite power at an index. -/
theorem two_neg_apply (e : FVec Ideal S28x2048x28 .f32) (z : S28x2048x28.Idx) :
    Host.powf twoT (Host.negf e) z = two (Neg.neg (α := EReal) (e z)) := rfl

/-- The scale of group `j` of a token. -/
theorem scale_apply (b : Fin 28) (s : Fin 2048) (j : Fin 28) :
    scaleT a0 a1 a2 (ix3 b s j) = refScale (rowM a0 a1 b s) (gainM a2) j := by
  unfold scaleT refScale
  rw [two_apply, expo_apply, amax_apply]

/-- The limited product at an index. -/
theorem clip_apply (u : FVec Ideal S28x2048x28x128 .f32) (q : FVec Ideal S28x2048x28 .f32) (b : Fin 28) (s : Fin 2048) (j : Fin 28)
    (l : Fin 128) : clipT u q (ix4 b s j l) = clip (u (ix4 b s j l) * q (ix3 b s j)) := by
  have e : broadcastInDim S28x2048x28x128 ![0, 1, 2, 3] Facts₀.bcast_S28x2048x28x1_S28x2048x28x128_0_1_2_3
      (broadcastInDim S28x2048x28x1 ![0, 1, 2] Facts₀.bcast_S28x2048x28_S28x2048x28x1_0_1_2 q) (ix4 b s j l) = q (ix3 b s j) :=
    (broadcastInDim_apply _ _ _ _ (ix4 b s j 0) fun a => match a with | ⟨0, _⟩ => rfl | ⟨1, _⟩ => rfl | ⟨2, _⟩ => rfl | ⟨3, _⟩ => rfl).trans
      (broadcastInDim_apply _ _ _ _ (ix3 b s j) fun a => match a with | ⟨0, _⟩ => rfl | ⟨1, _⟩ => rfl | ⟨2, _⟩ => rfl)
  exact congrArg (fun t : EReal => clip (u (ix4 b s j l) * t)) e

/-- The change of format at an index. -/
theorem convert_apply (x : FVec Ideal S28x2048x3584 .f32) (z : S28x2048x3584.Idx) : Host.convertf (F := Ideal) .fp8e4m3 x z = x z := rfl

/-- Groups laid out as channels again. -/
theorem ungroup_apply (x : FVec Ideal S28x2048x28x128 .f32) (b : Fin 28) (s : Fin 2048) (k : Fin 3584) :
    shapeCast S28x2048x3584 x Facts₀.shapeCasts_S28x2048x28x128_S28x2048x3584 (ix3 b s k)
      = x (ix4 b s (grp k) ⟨k.val % 128, by omega⟩) :=
  shapeCast_apply _ _ _ _ (by
    rw [Shape.rowMajor_val_three, Shape.rowMajor_val_four]
    show ((b.val * 2048 + s.val) * 28 + k.val / 128) * 128 + k.val % 128 = (b.val * 2048 + s.val) * 3584 + k.val
    omega)

/-- The code of channel `k` of a token. -/
theorem code_apply (b : Fin 28) (s : Fin 2048) (k : Fin 3584) :
    codeT a0 a1 a2 (ix3 b s k) = refCode (rowM a0 a1 b s) (gainM a2) k := by
  have hk : col (grp k) ⟨k.val % 128, by omega⟩ = k := Fin.ext (by show 128 * (k.val / 128) + k.val % 128 = k.val; omega)
  unfold codeT refCode
  rw [convert_apply, ungroup_apply, clip_apply, two_neg_apply, expo_apply, amax_apply, group_apply, hk]

end Cert.ReferenceIdeal.Hand

end
-- ==== Proof.Equation.lean ====
/- The kernel's results equal the reference's, with finite gains. -/
module

public import proofs.«01_k».proof.Proof.Bound
public import proofs.«01_k».proof.Proof.Results
public import proofs.«01_k».proof.Proof.Ref

@[expose] public section

set_option maxRecDepth 16384

noncomputable section

namespace Cert.Row

open Idealize.ShloMosaic

variable (f g : Fin 3584 → EReal) (hg : ∀ c, max (g c) (-g c) ≤ Ideal.ieee 8 23 0x7F7F0000#32)

include hg

/-- A group's scale from the exponent word is the power of two. -/
theorem scale_eq (j : Fin 28) : scale f g j = refScale f g j := by
  obtain ⟨r, hr, h0, h1⟩ := amax_bound f g hg j
  unfold scale refScale fieldAt
  rw [hr]
  exact (words_eq r h0 h1).1

/-- A channel's code by the factor from the exponent word is its code by the power of two. -/
theorem code_eq (c : Fin 3584) : code f g c = refCode f g c := by
  obtain ⟨r, hr, h0, h1⟩ := amax_bound f g hg (grp c)
  unfold code refCode fieldAt
  rw [hr, (words_eq r h0 h1).2]

end Cert.Row

namespace Cert.Proof

open Idealize.ShloMosaic Cert.Row

variable (a0 a1 : (⟨3, ![28, 2048, 3584]⟩ : Shape).Idx → EReal) (a2 : (⟨1, ![3584]⟩ : Shape).Idx → EReal)

/-- The sums are equal. -/
theorem sum_eq : Cert.ReferenceIdeal.Hand.sumT a0 a1 = Cert.KernelIdeal.Hand.sumM a0 a1 := by
  funext z
  obtain ⟨b, s, k, rfl⟩ : ∃ (b : Fin 28) (s : Fin 2048) (k : Fin 3584), z = ix3 b s k := ⟨z 0, z 1, z 2, eq_ix3 z⟩
  exact Cert.ReferenceIdeal.Hand.wide_apply a0 a1 b s k

/-- With finite gains the codes are equal. -/
theorem codes_eq (hg : ∀ k, max (gainM a2 k) (-gainM a2 k) ≤ Ideal.ieee 8 23 0x7F7F0000#32) :
    Cert.ReferenceIdeal.Hand.codeT a0 a1 a2 = Cert.KernelIdeal.Hand.codeM a0 a1 a2 := by
  funext z
  obtain ⟨b, s, k, rfl⟩ : ∃ (b : Fin 28) (s : Fin 2048) (k : Fin 3584), z = ix3 b s k := ⟨z 0, z 1, z 2, eq_ix3 z⟩
  exact (Cert.ReferenceIdeal.Hand.code_apply a0 a1 a2 b s k).trans (code_eq (rowM a0 a1 b s) (gainM a2) hg k).symm

/-- With finite gains the scales are equal. -/
theorem scales_eq (hg : ∀ k, max (gainM a2 k) (-gainM a2 k) ≤ Ideal.ieee 8 23 0x7F7F0000#32) :
    Cert.ReferenceIdeal.Hand.scaleT a0 a1 a2 = Cert.KernelIdeal.Hand.scaleM a0 a1 a2 := by
  funext z
  obtain ⟨b, s, j, rfl⟩ : ∃ (b : Fin 28) (s : Fin 2048) (j : Fin 28), z = ix3 b s j := ⟨z 0, z 1, z 2, eq_ix3 z⟩
  exact (Cert.ReferenceIdeal.Hand.scale_apply a0 a1 a2 b s j).trans (scale_eq (rowM a0 a1 b s) (gainM a2) hg j).symm

end Cert.Proof

end
-- ==== Proof.lean ====
module

public import proofs.«01_k».proof.Defs
public import proofs.«01_k».proof.Proof.KernelFrame
public import proofs.«01_k».proof.Proof.Equation

@[expose] public section

noncomputable section

namespace Cert.Proof

open Idealize.ShloMosaic Idealize.SL.Sem Cert.Row

/-- The side conditions of the precondition on the gains. -/
instance pre_facts : Cert.Pre_gamma_finite.Facts where
  bitsLt_bf16_f32 := by decide
  bcast_S_S3584 := by decide

/-- The precondition, read at a gain: its absolute value is at most the greatest finite value of its format. -/
theorem gain_le (x0 x1 : FVec Ideal Cert.Pre_gamma_finite.S28x2048x3584 .bf16) (x2 : FVec Ideal Cert.Pre_gamma_finite.S3584 .bf16)
    (h : Cert.Pre_gamma_finite.fn (F := Ideal) x0 x1 x2 = fun _ => 1#1) (k : Fin 3584) :
    max (gainM x2 k) (-gainM x2 k) ≤ Ideal.ieee 8 23 0x7F7F0000#32 := by
  have e : Ideal.cmp .ole (max (gainM x2 k) (-gainM x2 k)) (Ideal.ieee 8 23 0x7F7F0000#32) = 1#1 := congrFun h (ix1 k)
  by_contra hn
  rw [Ideal.cmp, show decide (max (gainM x2 k) (-gainM x2 k) ≤ Ideal.ieee 8 23 0x7F7F0000#32) = false from decide_eq_false hn] at e
  exact absurd e (by decide)

/-- The reference's run leaves its arguments unchanged and every semaphore at zero: the program has none. -/
theorem frame_r : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- From memories that agree on the arguments, with finite gains, the kernel and the reference end with equal results. -/
theorem algebraic : Cert.algebraic_KernelIdeal_ReferenceIdeal_pre_gamma_finite := by
  intro m g m' g' hpre hargs
  refine ⟨fun c => Cert.KernelIdeal.Hand.sumM (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.KernelIdeal.Hand.codeM (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.KernelIdeal.Hand.scaleM (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m g,
    (θ_run Cert.ReferenceIdeal.defs _ _).mono (fun r h c => ?_) (Cert.ReferenceIdeal.Hand.run m' g')⟩
  have hg := gain_le _ _ _ (hpre c)
  have h0 := (hargs c).1
  have h1 := (hargs c).2.1
  have h2 := (hargs c).2.2
  refine ⟨(h c).1.trans ((congrArg₂ Cert.ReferenceIdeal.Hand.sumT h0 h1).trans (sum_eq _ _)), (h c).2.1.trans ?_, (h c).2.2.1.trans ?_,
    (h c).2.2.2⟩
  · exact (congr (congrArg₂ Cert.ReferenceIdeal.Hand.codeT h0 h1) h2).trans (codes_eq _ _ _ hg)
  · exact (congr (congrArg₂ Cert.ReferenceIdeal.Hand.scaleT h0 h1) h2).trans (scales_eq _ _ _ hg)

/-- Everything the certificate claims. -/
theorem claim : Cert.Claim := ⟨Cert.Kernel.Gen.facts, Cert.KernelIdeal.Gen.facts, Cert.ReferenceIdeal.Gen.facts, pre_facts,
  fun m ρ _ => Cert.Kernel.Hand.frame m ρ, fun m ρ _ => Cert.KernelIdeal.Hand.frame m ρ, fun m ρ _ => Cert.KernelIdeal.Hand.frame m ρ,
  frame_r, fun m ρ _ => frame_r m ρ trivial, trivial, algebraic⟩

end Cert.Proof

end
